-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MoeUp [hPre_up_tables : Cert.Pre_up_tables.Facts] (m : (ℓ : Loc Cert.MoeUp.nD Cert.MoeUp.τ Cert.MoeUp.sig) → Buf (Elt Bits) ℓ) : Prop :=
  ∀ c : Dev Cert.MoeUp.nD,
    (Cert.Pre_up_tables.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_up_tables : Cert.Pre_up_tables.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_up_tables.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_up_tables [hPre_up_tables : Cert.Pre_up_tables.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_up_tables.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4))) = (fun _ => 1#1)

def Pre_MoeDown [hPre_down_tables : Cert.Pre_down_tables.Facts] (m : (ℓ : Loc Cert.MoeDown.nD Cert.MoeDown.τ Cert.MoeDown.sig) → Buf (Elt Bits) ℓ) : Prop :=
  ∀ c : Dev Cert.MoeDown.nD,
    (Cert.Pre_down_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_down_tables : Cert.Pre_down_tables.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_down_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_down_tables [hPre_down_tables : Cert.Pre_down_tables.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_down_tables.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_HeadNorm (m : (ℓ : Loc Cert.HeadNorm.nD Cert.HeadNorm.τ Cert.HeadNorm.sig) → Buf (Elt Bits) ℓ) : Prop :=
  True

def Pre_HeadNormIdeal (m : (ℓ : Loc Cert.HeadNormIdeal.nD Cert.HeadNormIdeal.τ Cert.HeadNormIdeal.sig) → Buf (Elt Ideal) ℓ) : Prop :=
  True

def Pre_HeadNormRefIdeal (m : (ℓ : Loc Cert.HeadNormRefIdeal.nD Cert.HeadNormRefIdeal.τ Cert.HeadNormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MidNorm (m : (ℓ : Loc Cert.MidNorm.nD Cert.MidNorm.τ Cert.MidNorm.sig) → Buf (Elt Bits) ℓ) : Prop :=
  True

def Pre_MidNormIdeal (m : (ℓ : Loc Cert.MidNormIdeal.nD Cert.MidNormIdeal.τ Cert.MidNormIdeal.sig) → Buf (Elt Ideal) ℓ) : Prop :=
  True

def Pre_MidNormRefIdeal (m : (ℓ : Loc Cert.MidNormRefIdeal.nD Cert.MidNormRefIdeal.τ Cert.MidNormRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_MoeUp [hMoeUp : Cert.MoeUp.Facts] [hPre_up_tables : Cert.Pre_up_tables.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_up_tables : Cert.Pre_up_tables.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeUpRefIdeal_pre_up_tables [hMoeUpRefIdeal : Cert.MoeUpRefIdeal.Facts] [hPre_up_tables : Cert.Pre_up_tables.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_up_tables m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeDown [hMoeDown : Cert.MoeDown.Facts] [hPre_down_tables : Cert.Pre_down_tables.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_down_tables : Cert.Pre_down_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_down_tables [hMoeDownRefIdeal : Cert.MoeDownRefIdeal.Facts] [hPre_down_tables : Cert.Pre_down_tables.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_down_tables m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3))
      ∧ r.2.sem = fun _ => 0)

def quiescent_HeadNorm [hHeadNorm : Cert.HeadNorm.Facts] : Prop :=
  ∀ (m : (ℓ : Loc Cert.HeadNorm.nD Cert.HeadNorm.τ Cert.HeadNorm.sig) → Buf (Elt Bits) ℓ) (g : Dev Cert.HeadNorm.nD → PrngReg), Pre_HeadNorm m →
    θ_run (Cert.HeadNorm.defs (F := Bits)) (onTc (τ := Cert.HeadNorm.τ) (Cert.HeadNorm.main (F := Bits))) ⟨m, fun _ => 0, g⟩ (fun r => (∀ c : Dev Cert.HeadNorm.nD,
      r.2.mem ((c.tc : Thread Cert.HeadNorm.nD Cert.HeadNorm.τ).loc Cert.HeadNorm.main_arg0) = m ((c.tc : Thread Cert.HeadNorm.nD Cert.HeadNorm.τ).loc Cert.HeadNorm.main_arg0)
      ∧ r.2.mem ((c.tc : Thread Cert.HeadNorm.nD Cert.HeadNorm.τ).loc Cert.HeadNorm.main_arg1) = m ((c.tc : Thread Cert.HeadNorm.nD Cert.HeadNorm.τ).loc Cert.HeadNorm.main_arg1)
      ∧ r.2.mem ((c.tc : Thread Cert.HeadNorm.nD Cert.HeadNorm.τ).loc Cert.HeadNorm.main_arg2) = m ((c.tc : Thread Cert.HeadNorm.nD Cert.HeadNorm.τ).loc Cert.HeadNorm.main_arg2)
      ∧ r.2.mem ((c.tc : Thread Cert.HeadNorm.nD Cert.HeadNorm.τ).loc Cert.HeadNorm.main_arg3) = m ((c.tc : Thread Cert.HeadNorm.nD Cert.HeadNorm.τ).loc Cert.HeadNorm.main_arg3))
      ∧ r.2.sem = fun _ => 0)

def quiescent_HeadNormIdeal [hHeadNormIdeal : Cert.HeadNormIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg), Pre_HeadNormIdeal m →
    θ_run (Cert.HeadNormIdeal.defs (F := Ideal)) (onTc (τ := Cert.HeadNormIdeal.τ) (Cert.HeadNormIdeal.main (F := Ideal))) ⟨m, fun _ => 0, g⟩ (fun r => (∀ c : Dev Cert.HeadNormIdeal.nD,
      r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
      ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
      ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2)
      ∧ r.2.mem ((c.tc : Thread Cert.HeadNormIdeal.nD Cert.HeadNormIdeal.τ).loc Cert.HeadNormIdeal.main_arg3) = m ((c.tc : Thread Cert.HeadNormIdeal.nD Cert.HeadNormIdeal.τ).loc Cert.HeadNormIdeal.main_arg3))
      ∧ r.2.sem = fun _ => 0)

def quiescent_HeadNormRefIdeal [hHeadNormRefIdeal : Cert.HeadNormRefIdeal.Facts] : Prop :=
  ∀ (m : (ℓ : Loc Cert.HeadNormRefIdeal.nD Cert.HeadNormRefIdeal.τ Cert.HeadNormRefIdeal.sig) → Buf (Elt Ideal) ℓ) (g : Dev Cert.HeadNormRefIdeal.nD → PrngReg), Pre_HeadNormRefIdeal m →
    θ_run (Cert.HeadNormRefIdeal.defs (F := Ideal)) (onTc (τ := Cert.HeadNormRefIdeal.τ) (Cert.HeadNormRefIdeal.main (F := Ideal))) ⟨m, fun _ => 0, g⟩ (fun r => (∀ c : Dev Cert.HeadNormRefIdeal.nD,
      r.2.mem ((c.tc : Thread Cert.HeadNormRefIdeal.nD Cert.HeadNormRefIdeal.τ).loc Cert.HeadNormRefIdeal.main_arg0) = m ((c.tc : Thread Cert.HeadNormRefIdeal.nD Cert.HeadNormRefIdeal.τ).loc Cert.HeadNormRefIdeal.main_arg0)
      ∧ r.2.mem ((c.tc : Thread Cert.HeadNormRefIdeal.nD Cert.HeadNormRefIdeal.τ).loc Cert.HeadNormRefIdeal.main_arg1) = m ((c.tc : Thread Cert.HeadNormRefIdeal.nD Cert.HeadNormRefIdeal.τ).loc Cert.HeadNormRefIdeal.main_arg1)
      ∧ r.2.mem ((c.tc : Thread Cert.HeadNormRefIdeal.nD Cert.HeadNormRefIdeal.τ).loc Cert.HeadNormRefIdeal.main_arg2) = m ((c.tc : Thread Cert.HeadNormRefIdeal.nD Cert.HeadNormRefIdeal.τ).loc Cert.HeadNormRefIdeal.main_arg2)
      ∧ r.2.mem ((c.tc : Thread Cert.HeadNormRefIdeal.nD Cert.HeadNormRefIdeal.τ).loc Cert.HeadNormRefIdeal.main_arg3) = m ((c.tc : Thread Cert.HeadNormRefIdeal.nD Cert.HeadNormRefIdeal.τ).loc Cert.HeadNormRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_MidNorm [hMidNorm : Cert.MidNorm.Facts] : Prop :=
  ∀ (m : (ℓ : Loc Cert.MidNorm.nD Cert.MidNorm.τ Cert.MidNorm.sig) → Buf (Elt Bits) ℓ) (g : Dev Cert.MidNorm.nD → PrngReg), Pre_MidNorm m →
    θ_run (Cert.MidNorm.defs (F := Bits)) (onTc (τ := Cert.MidNorm.τ) (Cert.MidNorm.main (F := Bits))) ⟨m, fun _ => 0, g⟩ (fun r => (∀ c : Dev Cert.MidNorm.nD,
      r.2.mem ((c.tc : Thread Cert.MidNorm.nD Cert.MidNorm.τ).loc Cert.MidNorm.main_arg0) = m ((c.tc : Thread Cert.MidNorm.nD Cert.MidNorm.τ).loc Cert.MidNorm.main_arg0)
      ∧ r.2.mem ((c.tc : Thread Cert.MidNorm.nD Cert.MidNorm.τ).loc Cert.MidNorm.main_arg1) = m ((c.tc : Thread Cert.MidNorm.nD Cert.MidNorm.τ).loc Cert.MidNorm.main_arg1)
      ∧ r.2.mem ((c.tc : Thread Cert.MidNorm.nD Cert.MidNorm.τ).loc Cert.MidNorm.main_arg2) = m ((c.tc : Thread Cert.MidNorm.nD Cert.MidNorm.τ).loc Cert.MidNorm.main_arg2)
      ∧ r.2.mem ((c.tc : Thread Cert.MidNorm.nD Cert.MidNorm.τ).loc Cert.MidNorm.main_arg3) = m ((c.tc : Thread Cert.MidNorm.nD Cert.MidNorm.τ).loc Cert.MidNorm.main_arg3))
      ∧ r.2.sem = fun _ => 0)

def quiescent_MidNormIdeal [hMidNormIdeal : Cert.MidNormIdeal.Facts] : Prop :=
  ∀ (m : (ℓ : Loc Cert.MidNormIdeal.nD Cert.MidNormIdeal.τ Cert.MidNormIdeal.sig) → Buf (Elt Ideal) ℓ) (g : Dev Cert.MidNormIdeal.nD → PrngReg), Pre_MidNormIdeal m →
    θ_run (Cert.MidNormIdeal.defs (F := Ideal)) (onTc (τ := Cert.MidNormIdeal.τ) (Cert.MidNormIdeal.main (F := Ideal))) ⟨m, fun _ => 0, g⟩ (fun r => (∀ c : Dev Cert.MidNormIdeal.nD,
      r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
      ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
      ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
      ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3))
      ∧ r.2.sem = fun _ => 0)

def quiescent_MidNormRefIdeal [hMidNormRefIdeal : Cert.MidNormRefIdeal.Facts] : Prop :=
  ∀ (m : (ℓ : Loc Cert.MidNormRefIdeal.nD Cert.MidNormRefIdeal.τ Cert.MidNormRefIdeal.sig) → Buf (Elt Ideal) ℓ) (g : Dev Cert.MidNormRefIdeal.nD → PrngReg), Pre_MidNormRefIdeal m →
    θ_run (Cert.MidNormRefIdeal.defs (F := Ideal)) (onTc (τ := Cert.MidNormRefIdeal.τ) (Cert.MidNormRefIdeal.main (F := Ideal))) ⟨m, fun _ => 0, g⟩ (fun r => (∀ c : Dev Cert.MidNormRefIdeal.nD,
      r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v54) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_up_tables : Cert.Pre_up_tables.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v34) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_down_tables : Cert.Pre_down_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v19) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v2_0)) (v1 : (c : Dev Cert.NormInIdeal.nD) → Buf (Elt Ideal) ((c.tc : Thread Cert.NormInIdeal.nD Cert.NormInIdeal.τ).loc Cert.NormInIdeal.main_v2_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v2_0) = v0 c
          ∧ r.2.mem ((c.tc : Thread Cert.NormInIdeal.nD Cert.NormInIdeal.τ).loc Cert.NormInIdeal.main_v2_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v26) = v0 c
          ∧ r.2.mem ((c.tc : Thread Cert.NormInRefIdeal.nD Cert.NormInRefIdeal.τ).loc Cert.NormInRefIdeal.main_v27) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3))

def preserves_HeadNorm_HeadNormIdeal : Prop :=
  True

def algebraic_HeadNormIdeal_HeadNormRefIdeal [hHeadNormIdeal : Cert.HeadNormIdeal.Facts] [hHeadNormRefIdeal : Cert.HeadNormRefIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg)
    (m' : (ℓ : Loc Cert.HeadNormRefIdeal.nD Cert.HeadNormRefIdeal.τ Cert.HeadNormRefIdeal.sig) → Buf (Elt Ideal) ℓ) (g' : Dev Cert.HeadNormRefIdeal.nD → PrngReg), Pre_HeadNormIdeal m →
    (∀ c : Dev Cert.HeadNormIdeal.nD,
      m' ((c.tc : Thread Cert.HeadNormRefIdeal.nD Cert.HeadNormRefIdeal.τ).loc Cert.HeadNormRefIdeal.main_arg0) = m ((c.tc : Thread Cert.HeadNormIdeal.nD Cert.HeadNormIdeal.τ).loc Cert.HeadNormIdeal.main_arg0)
      ∧ m' ((c.tc : Thread Cert.HeadNormRefIdeal.nD Cert.HeadNormRefIdeal.τ).loc Cert.HeadNormRefIdeal.main_arg1) = m ((c.tc : Thread Cert.HeadNormIdeal.nD Cert.HeadNormIdeal.τ).loc Cert.HeadNormIdeal.main_arg1)
      ∧ m' ((c.tc : Thread Cert.HeadNormRefIdeal.nD Cert.HeadNormRefIdeal.τ).loc Cert.HeadNormRefIdeal.main_arg2) = m ((c.tc : Thread Cert.HeadNormIdeal.nD Cert.HeadNormIdeal.τ).loc Cert.HeadNormIdeal.main_arg2)
      ∧ m' ((c.tc : Thread Cert.HeadNormRefIdeal.nD Cert.HeadNormRefIdeal.τ).loc Cert.HeadNormRefIdeal.main_arg3) = m ((c.tc : Thread Cert.HeadNormIdeal.nD Cert.HeadNormIdeal.τ).loc Cert.HeadNormIdeal.main_arg3)) →
    ∃ (v0 : (c : Dev Cert.HeadNormIdeal.nD) → Buf (Elt Ideal) ((c.tc : Thread Cert.HeadNormIdeal.nD Cert.HeadNormIdeal.τ).loc Cert.HeadNormIdeal.main_v1)),
      θ_run (Cert.HeadNormIdeal.defs (F := Ideal)) (onTc (τ := Cert.HeadNormIdeal.τ) (Cert.HeadNormIdeal.main (F := Ideal))) ⟨m, fun _ => 0, g⟩ (fun r => ∀ c : Dev Cert.HeadNormIdeal.nD,
          r.2.mem ((c.tc : Thread Cert.HeadNormIdeal.nD Cert.HeadNormIdeal.τ).loc Cert.HeadNormIdeal.main_v1) = v0 c
          ∧ r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
          ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
          ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2)
          ∧ r.2.mem ((c.tc : Thread Cert.HeadNormIdeal.nD Cert.HeadNormIdeal.τ).loc Cert.HeadNormIdeal.main_arg3) = m ((c.tc : Thread Cert.HeadNormIdeal.nD Cert.HeadNormIdeal.τ).loc Cert.HeadNormIdeal.main_arg3))
      ∧ θ_run (Cert.HeadNormRefIdeal.defs (F := Ideal)) (onTc (τ := Cert.HeadNormRefIdeal.τ) (Cert.HeadNormRefIdeal.main (F := Ideal))) ⟨m', fun _ => 0, g'⟩ (fun r => ∀ c : Dev Cert.HeadNormRefIdeal.nD,
          r.2.mem ((c.tc : Thread Cert.HeadNormRefIdeal.nD Cert.HeadNormRefIdeal.τ).loc Cert.HeadNormRefIdeal.main_v27) = v0 c
          ∧ r.2.mem ((c.tc : Thread Cert.HeadNormRefIdeal.nD Cert.HeadNormRefIdeal.τ).loc Cert.HeadNormRefIdeal.main_arg0) = m' ((c.tc : Thread Cert.HeadNormRefIdeal.nD Cert.HeadNormRefIdeal.τ).loc Cert.HeadNormRefIdeal.main_arg0)
          ∧ r.2.mem ((c.tc : Thread Cert.HeadNormRefIdeal.nD Cert.HeadNormRefIdeal.τ).loc Cert.HeadNormRefIdeal.main_arg1) = m' ((c.tc : Thread Cert.HeadNormRefIdeal.nD Cert.HeadNormRefIdeal.τ).loc Cert.HeadNormRefIdeal.main_arg1)
          ∧ r.2.mem ((c.tc : Thread Cert.HeadNormRefIdeal.nD Cert.HeadNormRefIdeal.τ).loc Cert.HeadNormRefIdeal.main_arg2) = m' ((c.tc : Thread Cert.HeadNormRefIdeal.nD Cert.HeadNormRefIdeal.τ).loc Cert.HeadNormRefIdeal.main_arg2)
          ∧ r.2.mem ((c.tc : Thread Cert.HeadNormRefIdeal.nD Cert.HeadNormRefIdeal.τ).loc Cert.HeadNormRefIdeal.main_arg3) = m' ((c.tc : Thread Cert.HeadNormRefIdeal.nD Cert.HeadNormRefIdeal.τ).loc Cert.HeadNormRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v63) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_MidNorm_MidNormIdeal : Prop :=
  True

def algebraic_MidNormIdeal_MidNormRefIdeal [hMidNormIdeal : Cert.MidNormIdeal.Facts] [hMidNormRefIdeal : Cert.MidNormRefIdeal.Facts] : Prop :=
  ∀ (m : (ℓ : Loc Cert.MidNormIdeal.nD Cert.MidNormIdeal.τ Cert.MidNormIdeal.sig) → Buf (Elt Ideal) ℓ) (g : Dev Cert.MidNormIdeal.nD → PrngReg)
    (m' : (ℓ : Loc Cert.MidNormRefIdeal.nD Cert.MidNormRefIdeal.τ Cert.MidNormRefIdeal.sig) → Buf (Elt Ideal) ℓ) (g' : Dev Cert.MidNormRefIdeal.nD → PrngReg), Pre_MidNormIdeal m →
    (∀ c : Dev Cert.MidNormIdeal.nD,
      m' ((c.tc : Thread Cert.MidNormRefIdeal.nD Cert.MidNormRefIdeal.τ).loc Cert.MidNormRefIdeal.main_arg0) = m ((c.tc : Thread Cert.MidNormIdeal.nD Cert.MidNormIdeal.τ).loc Cert.MidNormIdeal.main_arg0)
      ∧ m' ((c.tc : Thread Cert.MidNormRefIdeal.nD Cert.MidNormRefIdeal.τ).loc Cert.MidNormRefIdeal.main_arg1) = m ((c.tc : Thread Cert.MidNormIdeal.nD Cert.MidNormIdeal.τ).loc Cert.MidNormIdeal.main_arg1)
      ∧ m' ((c.tc : Thread Cert.MidNormRefIdeal.nD Cert.MidNormRefIdeal.τ).loc Cert.MidNormRefIdeal.main_arg2) = m ((c.tc : Thread Cert.MidNormIdeal.nD Cert.MidNormIdeal.τ).loc Cert.MidNormIdeal.main_arg2)
      ∧ m' ((c.tc : Thread Cert.MidNormRefIdeal.nD Cert.MidNormRefIdeal.τ).loc Cert.MidNormRefIdeal.main_arg3) = m ((c.tc : Thread Cert.MidNormIdeal.nD Cert.MidNormIdeal.τ).loc Cert.MidNormIdeal.main_arg3)) →
    ∃ (v0 : (c : Dev Cert.MidNormIdeal.nD) → Buf (Elt Ideal) ((c.tc : Thread Cert.MidNormIdeal.nD Cert.MidNormIdeal.τ).loc Cert.MidNormIdeal.main_v2_0)) (v1 : (c : Dev Cert.MidNormIdeal.nD) → Buf (Elt Ideal) ((c.tc : Thread Cert.MidNormIdeal.nD Cert.MidNormIdeal.τ).loc Cert.MidNormIdeal.main_v2_1)),
      θ_run (Cert.MidNormIdeal.defs (F := Ideal)) (onTc (τ := Cert.MidNormIdeal.τ) (Cert.MidNormIdeal.main (F := Ideal))) ⟨m, fun _ => 0, g⟩ (fun r => ∀ c : Dev Cert.MidNormIdeal.nD,
          r.2.mem ((c.tc : Thread Cert.MidNormIdeal.nD Cert.MidNormIdeal.τ).loc Cert.MidNormIdeal.main_v2_0) = v0 c
          ∧ r.2.mem ((c.tc : Thread Cert.MidNormIdeal.nD Cert.MidNormIdeal.τ).loc Cert.MidNormIdeal.main_v2_1) = v1 c
          ∧ r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
          ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
          ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
          ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3))
      ∧ θ_run (Cert.MidNormRefIdeal.defs (F := Ideal)) (onTc (τ := Cert.MidNormRefIdeal.τ) (Cert.MidNormRefIdeal.main (F := Ideal))) ⟨m', fun _ => 0, g'⟩ (fun r => ∀ c : Dev Cert.MidNormRefIdeal.nD,
          r.2.mem ((c.tc : Thread Cert.MidNormRefIdeal.nD Cert.MidNormRefIdeal.τ).loc Cert.MidNormRefIdeal.main_v28) = v0 c
          ∧ r.2.mem ((c.tc : Thread Cert.MidNormRefIdeal.nD Cert.MidNormRefIdeal.τ).loc Cert.MidNormRefIdeal.main_v29) = v1 c
          ∧ r.2.mem ((c.tc : Thread Cert.MidNormRefIdeal.nD Cert.MidNormRefIdeal.τ).loc Cert.MidNormRefIdeal.main_arg0) = m' ((c.tc : Thread Cert.MidNormRefIdeal.nD Cert.MidNormRefIdeal.τ).loc Cert.MidNormRefIdeal.main_arg0)
          ∧ r.2.mem ((c.tc : Thread Cert.MidNormRefIdeal.nD Cert.MidNormRefIdeal.τ).loc Cert.MidNormRefIdeal.main_arg1) = m' ((c.tc : Thread Cert.MidNormRefIdeal.nD Cert.MidNormRefIdeal.τ).loc Cert.MidNormRefIdeal.main_arg1)
          ∧ r.2.mem ((c.tc : Thread Cert.MidNormRefIdeal.nD Cert.MidNormRefIdeal.τ).loc Cert.MidNormRefIdeal.main_arg2) = m' ((c.tc : Thread Cert.MidNormRefIdeal.nD Cert.MidNormRefIdeal.τ).loc Cert.MidNormRefIdeal.main_arg2)
          ∧ r.2.mem ((c.tc : Thread Cert.MidNormRefIdeal.nD Cert.MidNormRefIdeal.τ).loc Cert.MidNormRefIdeal.main_arg3) = m' ((c.tc : Thread Cert.MidNormRefIdeal.nD Cert.MidNormRefIdeal.τ).loc Cert.MidNormRefIdeal.main_arg3))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hNormIn : Cert.NormIn.Facts) (hNormInIdeal : Cert.NormInIdeal.Facts) (hNormInRefIdeal : Cert.NormInRefIdeal.Facts) (hHeadNorm : Cert.HeadNorm.Facts) (hHeadNormIdeal : Cert.HeadNormIdeal.Facts) (hHeadNormRefIdeal : Cert.HeadNormRefIdeal.Facts) (hConv : Cert.Conv.Facts) (hConvIdeal : Cert.ConvIdeal.Facts) (hConvRefIdeal : Cert.ConvRefIdeal.Facts) (hMidNorm : Cert.MidNorm.Facts) (hMidNormIdeal : Cert.MidNormIdeal.Facts) (hMidNormRefIdeal : Cert.MidNormRefIdeal.Facts) (hPre_up_tables : Cert.Pre_up_tables.Facts) (hPre_down_tables : Cert.Pre_down_tables.Facts),
    quiescent_Attn (hAttn := hAttn)
    ∧ quiescent_AttnIdeal (hAttnIdeal := hAttnIdeal)
    ∧ quiescent_AttnRefIdeal (hAttnRefIdeal := hAttnRefIdeal)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_MoeUp (hMoeUp := hMoeUp) (hPre_up_tables := hPre_up_tables)
    ∧ quiescent_MoeUpIdeal (hMoeUpIdeal := hMoeUpIdeal) (hPre_up_tables := hPre_up_tables)
    ∧ quiescent_MoeUpRefIdeal (hMoeUpRefIdeal := hMoeUpRefIdeal)
    ∧ quiescent_MoeUpRefIdeal_pre_up_tables (hMoeUpRefIdeal := hMoeUpRefIdeal) (hPre_up_tables := hPre_up_tables)
    ∧ quiescent_MoeDown (hMoeDown := hMoeDown) (hPre_down_tables := hPre_down_tables)
    ∧ quiescent_MoeDownIdeal (hMoeDownIdeal := hMoeDownIdeal) (hPre_down_tables := hPre_down_tables)
    ∧ quiescent_MoeDownRefIdeal (hMoeDownRefIdeal := hMoeDownRefIdeal)
    ∧ quiescent_MoeDownRefIdeal_pre_down_tables (hMoeDownRefIdeal := hMoeDownRefIdeal) (hPre_down_tables := hPre_down_tables)
    ∧ quiescent_NormIn (hNormIn := hNormIn)
    ∧ quiescent_NormInIdeal (hNormInIdeal := hNormInIdeal)
    ∧ quiescent_NormInRefIdeal (hNormInRefIdeal := hNormInRefIdeal)
    ∧ quiescent_HeadNorm (hHeadNorm := hHeadNorm)
    ∧ quiescent_HeadNormIdeal (hHeadNormIdeal := hHeadNormIdeal)
    ∧ quiescent_HeadNormRefIdeal (hHeadNormRefIdeal := hHeadNormRefIdeal)
    ∧ quiescent_Conv (hConv := hConv)
    ∧ quiescent_ConvIdeal (hConvIdeal := hConvIdeal)
    ∧ quiescent_ConvRefIdeal (hConvRefIdeal := hConvRefIdeal)
    ∧ quiescent_MidNorm (hMidNorm := hMidNorm)
    ∧ quiescent_MidNormIdeal (hMidNormIdeal := hMidNormIdeal)
    ∧ quiescent_MidNormRefIdeal (hMidNormRefIdeal := hMidNormRefIdeal)
    ∧ preserves_Attn_AttnIdeal
    ∧ algebraic_AttnIdeal_AttnRefIdeal (hAttnIdeal := hAttnIdeal) (hAttnRefIdeal := hAttnRefIdeal)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_MoeUp_MoeUpIdeal
    ∧ algebraic_MoeUpIdeal_MoeUpRefIdeal (hMoeUpIdeal := hMoeUpIdeal) (hMoeUpRefIdeal := hMoeUpRefIdeal) (hPre_up_tables := hPre_up_tables)
    ∧ preserves_MoeDown_MoeDownIdeal
    ∧ algebraic_MoeDownIdeal_MoeDownRefIdeal (hMoeDownIdeal := hMoeDownIdeal) (hMoeDownRefIdeal := hMoeDownRefIdeal) (hPre_down_tables := hPre_down_tables)
    ∧ preserves_NormIn_NormInIdeal
    ∧ algebraic_NormInIdeal_NormInRefIdeal (hNormInIdeal := hNormInIdeal) (hNormInRefIdeal := hNormInRefIdeal)
    ∧ preserves_HeadNorm_HeadNormIdeal
    ∧ algebraic_HeadNormIdeal_HeadNormRefIdeal (hHeadNormIdeal := hHeadNormIdeal) (hHeadNormRefIdeal := hHeadNormRefIdeal)
    ∧ preserves_Conv_ConvIdeal
    ∧ algebraic_ConvIdeal_ConvRefIdeal (hConvIdeal := hConvIdeal) (hConvRefIdeal := hConvRefIdeal)
    ∧ preserves_MidNorm_MidNormIdeal
    ∧ algebraic_MidNormIdeal_MidNormRefIdeal (hMidNormIdeal := hMidNormIdeal) (hMidNormRefIdeal := hMidNormRefIdeal)
-- ==== Pre_down_tables.lean ====
abbrev S327680x1024 : Shape := ⟨2, ![327680, 1024]⟩
abbrev S128x1024x4096 : Shape := ⟨3, ![128, 1024, 4096]⟩
abbrev S640 : Shape := ⟨1, ![640]⟩
abbrev S1 : Shape := ⟨1, ![1]⟩
abbrev S_ : Shape := ⟨0, ![]⟩

class Facts : Prop where
  bcast_S_S640 : S_.BroadcastsInDim S640 (![] : Fin 0 → Fin S640.rank)
  reducesTo_S640_S_d0 : S640.ReducesTo [0] S_
  h_S_ : 0 < S_.numel
  shapeCasts_S1_S_ : S1.ShapeCasts S_

variable [Facts]

def fn {F : FTy → Type} [FloatOps F] (main_arg0 : FVec F S327680x1024 .bf16) (main_arg1 : FVec F S128x1024x4096 .f32) (main_arg2 : IVec S640 32) (main_arg3 : IVec S1 32) : IVec S_ 1 :=
  let main_c : IVec S_ 32 := constantI S_ 32 0#32
  let main_v0 : IVec S640 32 := broadcastInDim S640 ![] bcast_S_S640 main_c
  let main_v1 : IVec S640 1 := cmpi .sge main_arg2 main_v0
  let main_c_0 : IVec S_ 32 := constantI S_ 32 128#32
  let main_v2 : IVec S640 32 := broadcastInDim S640 ![] bcast_S_S640 main_c_0
  let main_v3 : IVec S640 1 := cmpi .slt main_arg2 main_v2
  let main_v4 : IVec S640 1 := andi main_v1 main_v3
  let main_c_1 : IVec S_ 1 := constantI S_ 1 1#1
  let main_v5 : IVec S_ 1 := (fun x v => Host.reduce IntOp.andi x v reducesTo_S640_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg3 shapeCasts_S1_S_
  let main_c_3 : IVec S_ 32 := constantI S_ 32 640#32
  let main_v10 : IVec S_ 1 := cmpi .sle main_v9 main_c_3
  let main_v11 : IVec S_ 1 := andi main_v8 main_v10
  main_v11
-- ==== Pre_up_tables.lean ====
abbrev S327680x4096 : Shape := ⟨2, ![327680, 4096]⟩
abbrev S128x4096x1024 : Shape := ⟨3, ![128, 4096, 1024]⟩
abbrev S640 : Shape := ⟨1, ![640]⟩
abbrev S1 : Shape := ⟨1, ![1]⟩
abbrev S_ : Shape := ⟨0, ![]⟩

class Facts : Prop where
  bcast_S_S640 : S_.BroadcastsInDim S640 (![] : Fin 0 → Fin S640.rank)
  reducesTo_S640_S_d0 : S640.ReducesTo [0] S_
  h_S_ : 0 < S_.numel
  shapeCasts_S1_S_ : S1.ShapeCasts S_

variable [Facts]

def fn {F : FTy → Type} [FloatOps F] (main_arg0 : FVec F S327680x4096 .bf16) (main_arg1 : FVec F S128x4096x1024 .f32) (main_arg2 : FVec F S128x4096x1024 .f32) (main_arg3 : IVec S640 32) (main_arg4 : IVec S1 32) : IVec S_ 1 :=
  let main_c : IVec S_ 32 := constantI S_ 32 0#32
  let main_v0 : IVec S640 32 := broadcastInDim S640 ![] bcast_S_S640 main_c
  let main_v1 : IVec S640 1 := cmpi .sge main_arg3 main_v0
  let main_c_0 : IVec S_ 32 := constantI S_ 32 128#32
  let main_v2 : IVec S640 32 := broadcastInDim S640 ![] bcast_S_S640 main_c_0
  let main_v3 : IVec S640 1 := cmpi .slt main_arg3 main_v2
  let main_v4 : IVec S640 1 := andi main_v1 main_v3
  let main_c_1 : IVec S_ 1 := constantI S_ 1 1#1
  let main_v5 : IVec S_ 1 := (fun x v => Host.reduce IntOp.andi x v reducesTo_S640_S_d0 h_S_) main_v4 main_c_1
  let main_v6 : IVec S_ 32 := shapeCast S_ main_arg4 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg4 shapeCasts_S1_S_
  let main_c_3 : IVec S_ 32 := constantI S_ 32 640#32
  let main_v10 : IVec S_ 1 := cmpi .sle main_v9 main_c_3
  let main_v11 : IVec S_ 1 := andi main_v8 main_v10
  main_v11
-- ==== Attn.lean ====
abbrev S32768x28672 : Shape := ⟨2, ![32768, 28672]⟩
abbrev S1280x4096 : Shape := ⟨2, ![1280, 4096]⟩
abbrev S32768x2048 : Shape := ⟨2, ![32768, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S32768x28672, .bf16⟩
  | .hbm, ⟨1, _⟩ => ⟨S1280x4096, .bf16⟩
  | .hbm, ⟨2, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S32768x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_4 : BitVec 32 := 0#32
  ![v19.toNat, arg1.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c4_i32_4 : BitVec 32 := 4#32
  let v20 : BitVec 32 := Scalar.addi c4_i32_4 arg1
  let c0_i32_5 : BitVec 32 := 0#32
  ![v19.toNat, v20.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S32768x28672 : Shape := ⟨2, ![32768, 28672]⟩
abbrev S1280x4096 : Shape := ⟨2, ![1280, 4096]⟩
abbrev S32768x2048 : Shape := ⟨2, ![32768, 2048]⟩
abbrev S16384x2048 : Shape := ⟨2, ![16384, 2048]⟩
abbrev S1024x4096 : Shape := ⟨2, ![1024, 4096]⟩
abbrev S4x4096x4x512 : Shape := ⟨4, ![4, 4096, 4, 512]⟩
abbrev S4x256x2x4x512 : Shape := ⟨5, ![4, 256, 2, 4, 512]⟩
abbrev S4x256x1x4x512 : Shape := ⟨5, ![4, 256, 1, 4, 512]⟩
abbrev S4x256x4x512 : Shape := ⟨4, ![4, 256, 4, 512]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x512x4096 : Shape := ⟨4, ![4, 4, 512, 4096]⟩
abbrev S256x4096 : Shape := ⟨2, ![256, 4096]⟩
abbrev S1x16384x4x512 : Shape := ⟨4, ![1, 16384, 4, 512]⟩
abbrev S1x256x2x4x512 : Shape := ⟨5, ![1, 256, 2, 4, 512]⟩
abbrev S1x256x1x4x512 : Shape := ⟨5, ![1, 256, 1, 4, 512]⟩
abbrev S1x256x4x512 : Shape := ⟨4, ![1, 256, 4, 512]⟩
abbrev S1x4x16384x256 : Shape := ⟨4, ![1, 4, 16384, 256]⟩
abbrev S1x4x16384 : Shape := ⟨3, ![1, 4, 16384]⟩
abbrev S1x4x16384x1 : Shape := ⟨4, ![1, 4, 16384, 1]⟩
abbrev S1x4x512x16384 : Shape := ⟨4, ![1, 4, 512, 16384]⟩

abbrev nBuf : Space → Nat
  | .hbm => 65
  | .vmem => 0
  | .smem => 0
  | _ => 0

abbrev bufTy : (tb : Table) → Fin (tcTables nBuf tb) → BufTy
  | .hbm, ⟨0, _⟩ => ⟨S32768x28672, .bf16⟩
  | .hbm, ⟨1, _⟩ => ⟨S1280x4096, .bf16⟩
  | .hbm, ⟨2, _⟩ => ⟨S32768x2048, .bf16⟩
  | .hbm, ⟨3, _⟩ => ⟨S16384x2048, .bf16⟩
  | .hbm, ⟨4, _⟩ => ⟨S1024x4096, .bf16⟩
  | .hbm, ⟨5, _⟩ => ⟨S4x4096x4x512, .bf16⟩
  | .hbm, ⟨6, _⟩ => ⟨S4x256x2x4x512, .bf16⟩
  | .hbm, ⟨7, _⟩ => ⟨S4x256x1x4x512, .bf16⟩
  | .hbm, ⟨8, _⟩ => ⟨S4x256x4x512, .bf16⟩
  | .hbm, ⟨9, _⟩ => ⟨S4x256x1x4x512, .bf16⟩
  | .hbm, ⟨10, _⟩ => ⟨S4x256x4x512, .bf16⟩
  | .hbm, ⟨11, _⟩ => ⟨S4x4x4096x256, .f32⟩
  | .hbm, ⟨12, _⟩ => ⟨S_, .f32⟩
  | .hbm, ⟨13, _⟩ => ⟨S4x4x4096x256, .f32⟩
  | .hbm, ⟨14, _⟩ => ⟨S4x4x4096x256, .f32⟩
  | .hbm, ⟨15, _⟩ => ⟨S_, .f32⟩
  | .hbm, ⟨16, _⟩ => ⟨S4x4x4096, .f32⟩
  | .hbm, ⟨17, _⟩ => ⟨S_, .f32⟩
  | .hbm, ⟨18, _⟩ => ⟨S4x4x4096, .f32⟩
  | .hbm, ⟨19, _⟩ => ⟨S4x4x4096, .f32⟩
  | .hbm, ⟨20, _⟩ => ⟨S4x4x4096x1, .f32⟩
  | .hbm, ⟨21, _⟩ => ⟨S4x4x4096x256, .f32⟩
  | .hbm, ⟨22, _⟩ => ⟨S4x4x4096x256, .f32⟩
  | .hbm, ⟨23, _⟩ => ⟨S4x4x4096x256, .f32⟩
  | .hbm, ⟨24, _⟩ => ⟨S_, .f32⟩
  | .hbm, ⟨25, _⟩ => ⟨S4x4x4096, .f32⟩
  | .hbm, ⟨26, _⟩ => ⟨S4x4x4096x1, .f32⟩
  | .hbm, ⟨27, _⟩ => ⟨S4x4x4096x256, .f32⟩
  | .hbm, ⟨28, _⟩ => ⟨S4x4x4096x256, .f32⟩
  | .hbm, ⟨29, _⟩ => ⟨S4x4x4096x256, .bf16⟩
  | .hbm, ⟨30, _⟩ => ⟨S4x4x512x4096, .f32⟩
  | .hbm, ⟨31, _⟩ => ⟨S4x4096x4x512, .f32⟩
  | .hbm, ⟨32, _⟩ => ⟨S16384x2048, .f32⟩
  | .hbm, ⟨33, _⟩ => ⟨S16384x2048, .bf16⟩
  | .hbm, ⟨34, _⟩ => ⟨S256x4096, .bf16⟩
  | .hbm, ⟨35, _⟩ => ⟨S1x16384x4x512, .bf16⟩
  | .hbm, ⟨36, _⟩ => ⟨S1x256x2x4x512, .bf16⟩
  | .hbm, ⟨37, _⟩ => ⟨S1x256x1x4x512, .bf16⟩
  | .hbm, ⟨38, _⟩ => ⟨S1x256x4x512, .bf16⟩
  | .hbm, ⟨39, _⟩ => ⟨S1x256x1x4x512, .bf16⟩
  | .hbm, ⟨40, _⟩ => ⟨S1x256x4x512, .bf16⟩
  | .hbm, ⟨41, _⟩ => ⟨S1x4x16384x256, .f32⟩
  | .hbm, ⟨42, _⟩ => ⟨S_, .f32⟩
  | .hbm, ⟨43, _⟩ => ⟨S1x4x16384x256, .f32⟩
  | .hbm, ⟨44, _⟩ => ⟨S1x4x16384x256, .f32⟩
  | .hbm, ⟨45, _⟩ => ⟨S_, .f32⟩
  | .hbm, ⟨46, _⟩ => ⟨S1x4x16384, .f32⟩
  | .hbm, ⟨47, _⟩ => ⟨S_, .f32⟩
  | .hbm, ⟨48, _⟩ => ⟨S1x4x16384, .f32⟩
  | .hbm, ⟨49, _⟩ => ⟨S1x4x16384, .f32⟩
  | .hbm, ⟨50, _⟩ => ⟨S1x4x16384x1, .f32⟩
  | .hbm, ⟨51, _⟩ => ⟨S1x4x16384x256, .f32⟩
  | .hbm, ⟨52, _⟩ => ⟨S1x4x16384x256, .f32⟩
  | .hbm, ⟨53, _⟩ => ⟨S1x4x16384x256, .f32⟩
  | .hbm, ⟨54, _⟩ => ⟨S_, .f32⟩
  | .hbm, ⟨55, _⟩ => ⟨S1x4x16384, .f32⟩
  | .hbm, ⟨56, _⟩ => ⟨S1x4x16384x1, .f32⟩
  | .hbm, ⟨57, _⟩ => ⟨S1x4x16384x256, .f32⟩
  | .hbm, ⟨58, _⟩ => ⟨S1x4x16384x256, .f32⟩
  | .hbm, ⟨59, _⟩ => ⟨S1x4x16384x256, .bf16⟩
  | .hbm, ⟨60, _⟩ => ⟨S1x4x512x16384, .f32⟩
  | .hbm, ⟨61, _⟩ => ⟨S1x16384x4x512, .f32⟩
  | .hbm, ⟨62, _⟩ => ⟨S16384x2048, .f32⟩
  | .hbm, ⟨63, _⟩ => ⟨S32768x2048, .f32⟩
  | .hbm, ⟨64, _⟩ => ⟨S32768x2048, .bf16⟩
  | _, _ => ⟨S32768x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩

abbrev nD : Nat := 1
abbrev τ : Topo := Topo.v7x

variable {F : FTy → Type} [FloatOps F]
-- ==== InProj.lean ====
abbrev S32768x4096 : Shape := ⟨2, ![32768, 4096]⟩
abbrev S4096x28672 : Shape := ⟨2, ![4096, 28672]⟩
abbrev S32768x28672 : Shape := ⟨2, ![32768, 28672]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x28672, .bf16⟩
  | .hbm, ⟨2, _⟩ => ⟨S32768x28672, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S32768x4096 : Shape := ⟨2, ![32768, 4096]⟩
abbrev S4096x28672 : Shape := ⟨2, ![4096, 28672]⟩
abbrev S32768x28672 : Shape := ⟨2, ![32768, 28672]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x28672, .bf16⟩
  | .hbm, ⟨2, _⟩ => ⟨S32768x28672, .f32⟩
  | .hbm, ⟨3, _⟩ => ⟨S32768x28672, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKv.lean ====
abbrev S1280x4096 : Shape := ⟨2, ![1280, 4096]⟩
abbrev S4096x4096 : Shape := ⟨2, ![4096, 4096]⟩
abbrev S256x4096 : Shape := ⟨2, ![256, 4096]⟩
abbrev S4096x1024 : Shape := ⟨2, ![4096, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1280x4096, .bf16⟩
  | .hbm, ⟨1, _⟩ => ⟨S4096x4096, .bf16⟩
  | .hbm, ⟨2, _⟩ => ⟨S1280x4096, .bf16⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .bf16⟩
  | .local _ .vmem, ⟨5, _⟩ => ⟨S256x1024, .bf16⟩
  | _, _ => ⟨S1280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S1280x4096 : Shape := ⟨2, ![1280, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S1280x4096, .bf16⟩
  | .hbm, ⟨1, _⟩ => ⟨S4096x4096, .bf16⟩
  | .hbm, ⟨2, _⟩ => ⟨S1280x4096, .f32⟩
  | .hbm, ⟨3, _⟩ => ⟨S1280x4096, .bf16⟩
  | _, _ => ⟨S1280x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S32768x4096 : Shape := ⟨2, ![32768, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S32768x4096 : Shape := ⟨2, ![32768, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Merge.lean ====
abbrev S32768x2048 : Shape := ⟨2, ![32768, 2048]⟩
abbrev S32768x28672 : Shape := ⟨2, ![32768, 28672]⟩
abbrev S3x2048x4096 : Shape := ⟨3, ![3, 2048, 4096]⟩
abbrev S32768x4096 : Shape := ⟨2, ![32768, 4096]⟩
abbrev S1024x2048 : Shape := ⟨2, ![1024, 2048]⟩
abbrev S1024x512 : Shape := ⟨2, ![1024, 512]⟩
abbrev S3x2048x512 : Shape := ⟨3, ![3, 2048, 512]⟩
abbrev S1x2048x512 : Shape := ⟨3, ![1, 2048, 512]⟩
abbrev S2048x512 : Shape := ⟨2, ![2048, 512]⟩

abbrev nBuf : Space → Nat
  | .hbm => 6
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S32768x28672, .bf16⟩
  | .hbm, ⟨4, _⟩ => ⟨S3x2048x4096, .bf16⟩
  | .hbm, ⟨5, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S3x2048x512, .bf16⟩
  | .local _ .vmem, ⟨13, _⟩ => ⟨S3x2048x512, .bf16⟩
  | .local _ .vmem, ⟨14, _⟩ => ⟨S1024x512, .bf16⟩
  | .local _ .vmem, ⟨15, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S32768x2048 : Shape := ⟨2, ![32768, 2048]⟩
abbrev S32768x28672 : Shape := ⟨2, ![32768, 28672]⟩
abbrev S3x2048x4096 : Shape := ⟨3, ![3, 2048, 4096]⟩
abbrev S32768x12288 : Shape := ⟨2, ![32768, 12288]⟩
abbrev S32768x3x4096 : Shape := ⟨3, ![32768, 3, 4096]⟩
abbrev S32768x1x4096 : Shape := ⟨3, ![32768, 1, 4096]⟩
abbrev S32768x4096 : Shape := ⟨2, ![32768, 4096]⟩
abbrev S_ : Shape := ⟨0, ![]⟩
abbrev S1x2048x4096 : Shape := ⟨3, ![1, 2048, 4096]⟩
abbrev S2048x4096 : Shape := ⟨2, ![2048, 4096]⟩

abbrev nBuf : Space → Nat
  | .hbm => 56
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S32768x28672, .bf16⟩
  | .hbm, ⟨4, _⟩ => ⟨S3x2048x4096, .bf16⟩
  | .hbm, ⟨5, _⟩ => ⟨S32768x12288, .bf16⟩
  | .hbm, ⟨6, _⟩ => ⟨S32768x12288, .f32⟩
  | .hbm, ⟨7, _⟩ => ⟨S32768x3x4096, .f32⟩
  | .hbm, ⟨8, _⟩ => ⟨S32768x1x4096, .f32⟩
  | .hbm, ⟨9, _⟩ => ⟨S32768x4096, .f32⟩
  | .hbm, ⟨10, _⟩ => ⟨S32768x4096, .f32⟩
  | .hbm, ⟨11, _⟩ => ⟨S32768x4096, .f32⟩
  | .hbm, ⟨12, _⟩ => ⟨S_, .f32⟩
  | .hbm, ⟨13, _⟩ => ⟨S32768x4096, .f32⟩
  | .hbm, ⟨14, _⟩ => ⟨S32768x4096, .f32⟩
  | .hbm, ⟨15, _⟩ => ⟨S_, .f32⟩
  | .hbm, ⟨16, _⟩ => ⟨S32768x4096, .f32⟩
  | .hbm, ⟨17, _⟩ => ⟨S32768x4096, .f32⟩
  | .hbm, ⟨18, _⟩ => ⟨S1x2048x4096, .bf16⟩
  | .hbm, ⟨19, _⟩ => ⟨S2048x4096, .bf16⟩
  | .hbm, ⟨20, _⟩ => ⟨S32768x4096, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x1x4096, .f32⟩
  | .hbm, ⟨26, _⟩ => ⟨S32768x4096, .f32⟩
  | .hbm, ⟨27, _⟩ => ⟨S32768x4096, .f32⟩
  | .hbm, ⟨28, _⟩ => ⟨S32768x4096, .f32⟩
  | .hbm, ⟨29, _⟩ => ⟨S_, .f32⟩
  | .hbm, ⟨30, _⟩ => ⟨S32768x4096, .f32⟩
  | .hbm, ⟨31, _⟩ => ⟨S32768x4096, .f32⟩
  | .hbm, ⟨32, _⟩ => ⟨S_, .f32⟩
  | .hbm, ⟨33, _⟩ => ⟨S32768x4096, .f32⟩
  | .hbm, ⟨34, _⟩ => ⟨S32768x4096, .f32⟩
  | .hbm, ⟨35, _⟩ => ⟨S1x2048x4096, .bf16⟩
  | .hbm, ⟨36, _⟩ => ⟨S2048x4096, .bf16⟩
  | .hbm, ⟨37, _⟩ => ⟨S32768x4096, .f32⟩
  | .hbm, ⟨38, _⟩ => ⟨S32768x4096, .f32⟩
  | .hbm, ⟨39, _⟩ => ⟨S32768x4096, .f32⟩
  | .hbm, ⟨40, _⟩ => ⟨S32768x1x4096, .f32⟩
  | .hbm, ⟨41, _⟩ => ⟨S32768x4096, .f32⟩
  | .hbm, ⟨42, _⟩ => ⟨S32768x4096, .f32⟩
  | .hbm, ⟨43, _⟩ => ⟨S32768x4096, .f32⟩
  | .hbm, ⟨44, _⟩ => ⟨S_, .f32⟩
  | .hbm, ⟨45, _⟩ => ⟨S32768x4096, .f32⟩
  | .hbm, ⟨46, _⟩ => ⟨S32768x4096, .f32⟩
  | .hbm, ⟨47, _⟩ => ⟨S_, .f32⟩
  | .hbm, ⟨48, _⟩ => ⟨S32768x4096, .f32⟩
  | .hbm, ⟨49, _⟩ => ⟨S32768x4096, .f32⟩
  | .hbm, ⟨50, _⟩ => ⟨S1x2048x4096, .bf16⟩
  | .hbm, ⟨51, _⟩ => ⟨S2048x4096, .bf16⟩
  | .hbm, ⟨52, _⟩ => ⟨S32768x4096, .f32⟩
  | .hbm, ⟨53, _⟩ => ⟨S32768x4096, .f32⟩
  | .hbm, ⟨54, _⟩ => ⟨S32768x4096, .f32⟩
  | .hbm, ⟨55, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== MoeUp.lean ====
abbrev S327680x4096 : Shape := ⟨2, ![327680, 4096]⟩
abbrev S128x4096x1024 : Shape := ⟨3, ![128, 4096, 1024]⟩
abbrev S640 : Shape := ⟨1, ![640]⟩
abbrev S1 : Shape := ⟨1, ![1]⟩
abbrev S327680x1024 : Shape := ⟨2, ![327680, 1024]⟩
abbrev S512x4096 : Shape := ⟨2, ![512, 4096]⟩
abbrev S1x4096x512 : Shape := ⟨3, ![1, 4096, 512]⟩
abbrev S512x512 : Shape := ⟨2, ![512, 512]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 4
  | .vmem => 8
  | .smem => 2
  | _ => 0

abbrev bufTy : (tb : Table) → Fin (tcTables nBuf tb) → BufTy
  | .hbm, ⟨0, _⟩ => ⟨S327680x4096, .bf16⟩
  | .hbm, ⟨1, _⟩ => ⟨S128x4096x1024, .f32⟩
  | .hbm, ⟨2, _⟩ => ⟨S128x4096x1024, .f32⟩
  | .hbm, ⟨3, _⟩ => ⟨S327680x1024, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .smem, ⟨0, _⟩ => ⟨S640, .i32⟩
  | .local _ .smem, ⟨1, _⟩ => ⟨S1, .i32⟩
  | _, _ => ⟨S327680x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 640], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S640.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S640) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S640.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S640) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpRefIdeal.lean ====
abbrev S327680x4096 : Shape := ⟨2, ![327680, 4096]⟩
abbrev S128x4096x1024 : Shape := ⟨3, ![128, 4096, 1024]⟩
abbrev S640 : Shape := ⟨1, ![640]⟩
abbrev S1 : Shape := ⟨1, ![1]⟩
abbrev S640x512x4096 : Shape := ⟨3, ![640, 512, 4096]⟩
abbrev S_ : Shape := ⟨0, ![]⟩
abbrev S640x1 : Shape := ⟨2, ![640, 1]⟩
abbrev S640x4096x1024 : Shape := ⟨3, ![640, 4096, 1024]⟩
abbrev S640x512x1024 : Shape := ⟨3, ![640, 512, 1024]⟩
abbrev S640x1x1 : Shape := ⟨3, ![640, 1, 1]⟩
abbrev S327680x1024 : Shape := ⟨2, ![327680, 1024]⟩

abbrev nBuf : Space → Nat
  | .hbm => 46
  | .vmem => 0
  | .smem => 0
  | _ => 0

abbrev bufTy : (tb : Table) → Fin (tcTables nBuf tb) → BufTy
  | .hbm, ⟨0, _⟩ => ⟨S327680x4096, .bf16⟩
  | .hbm, ⟨1, _⟩ => ⟨S128x4096x1024, .f32⟩
  | .hbm, ⟨2, _⟩ => ⟨S128x4096x1024, .f32⟩
  | .hbm, ⟨3, _⟩ => ⟨S640, .i32⟩
  | .hbm, ⟨4, _⟩ => ⟨S1, .i32⟩
  | .hbm, ⟨5, _⟩ => ⟨S640x512x4096, .bf16⟩
  | .hbm, ⟨6, _⟩ => ⟨S128x4096x1024, .bf16⟩
  | .hbm, ⟨7, _⟩ => ⟨S_, .i32⟩
  | .hbm, ⟨8, _⟩ => ⟨S640, .i32⟩
  | .hbm, ⟨9, _⟩ => ⟨S640, .i1⟩
  | .hbm, ⟨10, _⟩ => ⟨S_, .i32⟩
  | .hbm, ⟨11, _⟩ => ⟨S640, .i32⟩
  | .hbm, ⟨12, _⟩ => ⟨S640, .i32⟩
  | .hbm, ⟨13, _⟩ => ⟨S640, .i32⟩
  | .hbm, ⟨14, _⟩ => ⟨S640x1, .i32⟩
  | .hbm, ⟨15, _⟩ => ⟨S640x4096x1024, .bf16⟩
  | .hbm, ⟨16, _⟩ => ⟨S640x512x1024, .f32⟩
  | .hbm, ⟨17, _⟩ => ⟨S128x4096x1024, .bf16⟩
  | .hbm, ⟨18, _⟩ => ⟨S_, .i32⟩
  | .hbm, ⟨19, _⟩ => ⟨S640, .i32⟩
  | .hbm, ⟨20, _⟩ => ⟨S640, .i1⟩
  | .hbm, ⟨21, _⟩ => ⟨S_, .i32⟩
  | .hbm, ⟨22, _⟩ => ⟨S640, .i32⟩
  | .hbm, ⟨23, _⟩ => ⟨S640, .i32⟩
  | .hbm, ⟨24, _⟩ => ⟨S640, .i32⟩
  | .hbm, ⟨25, _⟩ => ⟨S640x1, .i32⟩
  | .hbm, ⟨26, _⟩ => ⟨S640x4096x1024, .bf16⟩
  | .hbm, ⟨27, _⟩ => ⟨S640x512x1024, .f32⟩
  | .hbm, ⟨28, _⟩ => ⟨S640x512x1024, .f32⟩
  | .hbm, ⟨29, _⟩ => ⟨S640x512x1024, .f32⟩
  | .hbm, ⟨30, _⟩ => ⟨S_, .f32⟩
  | .hbm, ⟨31, _⟩ => ⟨S640x512x1024, .f32⟩
  | .hbm, ⟨32, _⟩ => ⟨S640x512x1024, .f32⟩
  | .hbm, ⟨33, _⟩ => ⟨S640x512x1024, .f32⟩
  | .hbm, ⟨34, _⟩ => ⟨S640x512x1024, .f32⟩
  | .hbm, ⟨35, _⟩ => ⟨S640x512x1024, .bf16⟩
  | .hbm, ⟨36, _⟩ => ⟨S640, .i32⟩
  | .hbm, ⟨37, _⟩ => ⟨S_, .i32⟩
  | .hbm, ⟨38, _⟩ => ⟨S640, .i32⟩
  | .hbm, ⟨39, _⟩ => ⟨S640, .i1⟩
  | .hbm, ⟨40, _⟩ => ⟨S640x1x1, .i1⟩
  | .hbm, ⟨41, _⟩ => ⟨S640x512x1024, .i1⟩
  | .hbm, ⟨42, _⟩ => ⟨S_, .bf16⟩
  | .hbm, ⟨43, _⟩ => ⟨S640x512x1024, .bf16⟩
  | .hbm, ⟨44, _⟩ => ⟨S640x512x1024, .bf16⟩
  | .hbm, ⟨45, _⟩ => ⟨S327680x1024, .bf16⟩
  | _, _ => ⟨S327680x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== MoeDown.lean ====
abbrev S327680x1024 : Shape := ⟨2, ![327680, 1024]⟩
abbrev S128x1024x4096 : Shape := ⟨3, ![128, 1024, 4096]⟩
abbrev S640 : Shape := ⟨1, ![640]⟩
abbrev S1 : Shape := ⟨1, ![1]⟩
abbrev S327680x4096 : Shape := ⟨2, ![327680, 4096]⟩
abbrev S512x1024 : Shape := ⟨2, ![512, 1024]⟩
abbrev S1x1024x4096 : Shape := ⟨3, ![1, 1024, 4096]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 3
  | .vmem => 6
  | .smem => 2
  | _ => 0

abbrev bufTy : (tb : Table) → Fin (tcTables nBuf tb) → BufTy
  | .hbm, ⟨0, _⟩ => ⟨S327680x1024, .bf16⟩
  | .hbm, ⟨1, _⟩ => ⟨S128x1024x4096, .f32⟩
  | .hbm, ⟨2, _⟩ => ⟨S327680x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x4096, .f32⟩
  | .local _ .vmem, ⟨3, _⟩ => ⟨S1x1024x4096, .f32⟩
  | .local _ .vmem, ⟨4, _⟩ => ⟨S512x4096, .bf16⟩
  | .local _ .vmem, ⟨5, _⟩ => ⟨S512x4096, .bf16⟩
  | .local _ .smem, ⟨0, _⟩ => ⟨S640, .i32⟩
  | .local _ .smem, ⟨1, _⟩ => ⟨S1, .i32⟩
  | _, _ => ⟨S327680x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 640], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S640.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S640) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== MoeDownRefIdeal.lean ====
abbrev S327680x1024 : Shape := ⟨2, ![327680, 1024]⟩
abbrev S128x1024x4096 : Shape := ⟨3, ![128, 1024, 4096]⟩
abbrev S640 : Shape := ⟨1, ![640]⟩
abbrev S1 : Shape := ⟨1, ![1]⟩
abbrev S640x512x1024 : Shape := ⟨3, ![640, 512, 1024]⟩
abbrev S_ : Shape := ⟨0, ![]⟩
abbrev S640x1 : Shape := ⟨2, ![640, 1]⟩
abbrev S640x1024x4096 : Shape := ⟨3, ![640, 1024, 4096]⟩
abbrev S640x512x4096 : Shape := ⟨3, ![640, 512, 4096]⟩
abbrev S640x1x1 : Shape := ⟨3, ![640, 1, 1]⟩
abbrev S327680x4096 : Shape := ⟨2, ![327680, 4096]⟩

abbrev nBuf : Space → Nat
  | .hbm => 27
  | .vmem => 0
  | .smem => 0
  | _ => 0

abbrev bufTy : (tb : Table) → Fin (tcTables nBuf tb) → BufTy
  | .hbm, ⟨0, _⟩ => ⟨S327680x1024, .bf16⟩
  | .hbm, ⟨1, _⟩ => ⟨S128x1024x4096, .f32⟩
  | .hbm, ⟨2, _⟩ => ⟨S640, .i32⟩
  | .hbm, ⟨3, _⟩ => ⟨S1, .i32⟩
  | .hbm, ⟨4, _⟩ => ⟨S640x512x1024, .bf16⟩
  | .hbm, ⟨5, _⟩ => ⟨S128x1024x4096, .bf16⟩
  | .hbm, ⟨6, _⟩ => ⟨S_, .i32⟩
  | .hbm, ⟨7, _⟩ => ⟨S640, .i32⟩
  | .hbm, ⟨8, _⟩ => ⟨S640, .i1⟩
  | .hbm, ⟨9, _⟩ => ⟨S_, .i32⟩
  | .hbm, ⟨10, _⟩ => ⟨S640, .i32⟩
  | .hbm, ⟨11, _⟩ => ⟨S640, .i32⟩
  | .hbm, ⟨12, _⟩ => ⟨S640, .i32⟩
  | .hbm, ⟨13, _⟩ => ⟨S640x1, .i32⟩
  | .hbm, ⟨14, _⟩ => ⟨S640x1024x4096, .bf16⟩
  | .hbm, ⟨15, _⟩ => ⟨S640x512x4096, .f32⟩
  | .hbm, ⟨16, _⟩ => ⟨S640x512x4096, .bf16⟩
  | .hbm, ⟨17, _⟩ => ⟨S640, .i32⟩
  | .hbm, ⟨18, _⟩ => ⟨S_, .i32⟩
  | .hbm, ⟨19, _⟩ => ⟨S640, .i32⟩
  | .hbm, ⟨20, _⟩ => ⟨S640, .i1⟩
  | .hbm, ⟨21, _⟩ => ⟨S640x1x1, .i1⟩
  | .hbm, ⟨22, _⟩ => ⟨S640x512x4096, .i1⟩
  | .hbm, ⟨23, _⟩ => ⟨S_, .bf16⟩
  | .hbm, ⟨24, _⟩ => ⟨S640x512x4096, .bf16⟩
  | .hbm, ⟨25, _⟩ => ⟨S640x512x4096, .bf16⟩
  | .hbm, ⟨26, _⟩ => ⟨S327680x4096, .bf16⟩
  | _, _ => ⟨S327680x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== NormIn.lean ====
abbrev S16384x4096 : Shape := ⟨2, ![16384, 4096]⟩
abbrev S4096 : Shape := ⟨1, ![4096]⟩
abbrev S1x4096 : Shape := ⟨2, ![1, 4096]⟩
abbrev S32768x4096 : Shape := ⟨2, ![32768, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S32768x4096, .f32⟩
  | .hbm, ⟨7, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormInRefIdeal.lean ====
abbrev S16384x4096 : Shape := ⟨2, ![16384, 4096]⟩
abbrev S4096 : Shape := ⟨1, ![4096]⟩
abbrev S32768x4096 : Shape := ⟨2, ![32768, 4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S32768x4096, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S32768x4096, .f32⟩
  | .hbm, ⟨12, _⟩ => ⟨S32768x4096, .f32⟩
  | .hbm, ⟨13, _⟩ => ⟨S32768x4096, .f32⟩
  | .hbm, ⟨14, _⟩ => ⟨S32768x4096, .f32⟩
  | .hbm, ⟨15, _⟩ => ⟨S32768x4096, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x4096, .f32⟩
  | .hbm, ⟨23, _⟩ => ⟨S32768x4096, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x4096, .f32⟩
  | .hbm, ⟨29, _⟩ => ⟨S32768x4096, .f32⟩
  | .hbm, ⟨30, _⟩ => ⟨S1x4096, .f32⟩
  | .hbm, ⟨31, _⟩ => ⟨S32768x4096, .f32⟩
  | .hbm, ⟨32, _⟩ => ⟨S32768x4096, .f32⟩
  | .hbm, ⟨33, _⟩ => ⟨S1x4096, .f32⟩
  | .hbm, ⟨34, _⟩ => ⟨S32768x4096, .f32⟩
  | .hbm, ⟨35, _⟩ => ⟨S32768x4096, .f32⟩
  | .hbm, ⟨36, _⟩ => ⟨S32768x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== HeadNorm.lean ====
abbrev S32768x2048 : Shape := ⟨2, ![32768, 2048]⟩
abbrev S32768x28672 : Shape := ⟨2, ![32768, 28672]⟩
abbrev S128 : Shape := ⟨1, ![128]⟩
abbrev S1x128 : Shape := ⟨2, ![1, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x28672, .bf16⟩
  | .hbm, ⟨3, _⟩ => ⟨S128, .f32⟩
  | .hbm, ⟨4, _⟩ => ⟨S1x128, .f32⟩
  | .hbm, ⟨5, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x128, .f32⟩
  | .local _ .vmem, ⟨7, _⟩ => ⟨S256x2048, .bf16⟩
  | .local _ .vmem, ⟨8, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HeadNormRefIdeal.lean ====
abbrev S32768x2048 : Shape := ⟨2, ![32768, 2048]⟩
abbrev S32768x28672 : Shape := ⟨2, ![32768, 28672]⟩
abbrev S128 : Shape := ⟨1, ![128]⟩
abbrev S32768x16x128 : Shape := ⟨3, ![32768, 16, 128]⟩
abbrev S_ : Shape := ⟨0, ![]⟩
abbrev S32768x16 : Shape := ⟨2, ![32768, 16]⟩
abbrev S32768x16x1 : Shape := ⟨3, ![32768, 16, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x28672, .bf16⟩
  | .hbm, ⟨3, _⟩ => ⟨S128, .f32⟩
  | .hbm, ⟨4, _⟩ => ⟨S32768x2048, .f32⟩
  | .hbm, ⟨5, _⟩ => ⟨S32768x16x128, .f32⟩
  | .hbm, ⟨6, _⟩ => ⟨S32768x2048, .bf16⟩
  | .hbm, ⟨7, _⟩ => ⟨S32768x2048, .f32⟩
  | .hbm, ⟨8, _⟩ => ⟨S32768x16x128, .f32⟩
  | .hbm, ⟨9, _⟩ => ⟨S32768x16x128, .f32⟩
  | .hbm, ⟨10, _⟩ => ⟨S_, .f32⟩
  | .hbm, ⟨11, _⟩ => ⟨S32768x16, .f32⟩
  | .hbm, ⟨12, _⟩ => ⟨S32768x16x1, .f32⟩
  | .hbm, ⟨13, _⟩ => ⟨S_, .f32⟩
  | .hbm, ⟨14, _⟩ => ⟨S32768x16x1, .f32⟩
  | .hbm, ⟨15, _⟩ => ⟨S32768x16x1, .f32⟩
  | .hbm, ⟨16, _⟩ => ⟨S_, .f32⟩
  | .hbm, ⟨17, _⟩ => ⟨S32768x16x1, .f32⟩
  | .hbm, ⟨18, _⟩ => ⟨S32768x16x1, .f32⟩
  | .hbm, ⟨19, _⟩ => ⟨S32768x16x1, .f32⟩
  | .hbm, ⟨20, _⟩ => ⟨S32768x16x128, .f32⟩
  | .hbm, ⟨21, _⟩ => ⟨S32768x16x128, .f32⟩
  | .hbm, ⟨22, _⟩ => ⟨S1x1x128, .f32⟩
  | .hbm, ⟨23, _⟩ => ⟨S32768x16x128, .f32⟩
  | .hbm, ⟨24, _⟩ => ⟨S32768x16x128, .f32⟩
  | .hbm, ⟨25, _⟩ => ⟨S32768x16x128, .f32⟩
  | .hbm, ⟨26, _⟩ => ⟨S32768x16x128, .f32⟩
  | .hbm, ⟨27, _⟩ => ⟨S_, .f32⟩
  | .hbm, ⟨28, _⟩ => ⟨S32768x16x128, .f32⟩
  | .hbm, ⟨29, _⟩ => ⟨S32768x16x128, .f32⟩
  | .hbm, ⟨30, _⟩ => ⟨S_, .f32⟩
  | .hbm, ⟨31, _⟩ => ⟨S32768x16x128, .f32⟩
  | .hbm, ⟨32, _⟩ => ⟨S32768x16x128, .f32⟩
  | .hbm, ⟨33, _⟩ => ⟨S32768x16x128, .f32⟩
  | .hbm, ⟨34, _⟩ => ⟨S32768x16x128, .f32⟩
  | .hbm, ⟨35, _⟩ => ⟨S32768x2048, .f32⟩
  | .hbm, ⟨36, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Conv.lean ====
abbrev S32768x28672 : Shape := ⟨2, ![32768, 28672]⟩
abbrev S3x2048 : Shape := ⟨2, ![3, 2048]⟩
abbrev S32768x2048 : Shape := ⟨2, ![32768, 2048]⟩
abbrev S256x2048 : Shape := ⟨2, ![256, 2048]⟩
abbrev S16x2048 : Shape := ⟨2, ![16, 2048]⟩
abbrev S1x2048 : Shape := ⟨2, ![1, 2048]⟩

abbrev nBuf : Space → Nat
  | .hbm => 3
  | .vmem => 17
  | .smem => 0
  | _ => 0

abbrev bufTy : (tb : Table) → Fin (tcTables nBuf tb) → BufTy
  | .hbm, ⟨0, _⟩ => ⟨S32768x28672, .bf16⟩
  | .hbm, ⟨1, _⟩ => ⟨S3x2048, .f32⟩
  | .hbm, ⟨2, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S16x2048, .bf16⟩
  | .local _ .vmem, ⟨5, _⟩ => ⟨S16x2048, .bf16⟩
  | .local _ .vmem, ⟨6, _⟩ => ⟨S16x2048, .bf16⟩
  | .local _ .vmem, ⟨7, _⟩ => ⟨S16x2048, .bf16⟩
  | .local _ .vmem, ⟨8, _⟩ => ⟨S256x2048, .bf16⟩
  | .local _ .vmem, ⟨9, _⟩ => ⟨S256x2048, .bf16⟩
  | .local _ .vmem, ⟨10, _⟩ => ⟨S16x2048, .bf16⟩
  | .local _ .vmem, ⟨11, _⟩ => ⟨S16x2048, .bf16⟩
  | .local _ .vmem, ⟨12, _⟩ => ⟨S16x2048, .bf16⟩
  | .local _ .vmem, ⟨13, _⟩ => ⟨S16x2048, .bf16⟩
  | .local _ .vmem, ⟨14, _⟩ => ⟨S3x2048, .f32⟩
  | .local _ .vmem, ⟨15, _⟩ => ⟨S256x2048, .bf16⟩
  | .local _ .vmem, ⟨16, _⟩ => ⟨S256x2048, .bf16⟩
  | _, _ => ⟨S32768x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2047_i32 : BitVec 32 := 2047#32
  let v2 : BitVec 32 := Scalar.minsi v1 c2047_i32
  let c5_i32 : BitVec 32 := 5#32
  let c0_i32 : BitVec 32 := 0#32
  ![v2.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2047_i32 : BitVec 32 := 2047#32
  let v2 : BitVec 32 := Scalar.minsi v1 c2047_i32
  let c6_i32 : BitVec 32 := 6#32
  let c0_i32 : BitVec 32 := 0#32
  ![v2.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S32768x28672 : Shape := ⟨2, ![32768, 28672]⟩
abbrev S3x2048 : Shape := ⟨2, ![3, 2048]⟩
abbrev S32768x2048 : Shape := ⟨2, ![32768, 2048]⟩
abbrev S16384x2048 : Shape := ⟨2, ![16384, 2048]⟩
abbrev S4x4096x2048 : Shape := ⟨3, ![4, 4096, 2048]⟩
abbrev S4x1x2048 : Shape := ⟨3, ![4, 1, 2048]⟩
abbrev S_ : Shape := ⟨0, ![]⟩
abbrev S4x4098x2048 : Shape := ⟨3, ![4, 4098, 2048]⟩
abbrev S1x2048 : Shape := ⟨2, ![1, 2048]⟩
abbrev S2048 : Shape := ⟨1, ![2048]⟩
abbrev S1x1x2048 : Shape := ⟨3, ![1, 1, 2048]⟩
abbrev S1x16384x2048 : Shape := ⟨3, ![1, 16384, 2048]⟩
abbrev S1x16386x2048 : Shape := ⟨3, ![1, 16386, 2048]⟩

abbrev nBuf : Space → Nat
  | .hbm => 70
  | .vmem => 0
  | .smem => 0
  | _ => 0

abbrev bufTy : (tb : Table) → Fin (tcTables nBuf tb) → BufTy
  | .hbm, ⟨0, _⟩ => ⟨S32768x28672, .bf16⟩
  | .hbm, ⟨1, _⟩ => ⟨S3x2048, .f32⟩
  | .hbm, ⟨2, _⟩ => ⟨S32768x28672, .f32⟩
  | .hbm, ⟨3, _⟩ => ⟨S32768x2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S16384x2048, .f32⟩
  | .hbm, ⟨8, _⟩ => ⟨S4x4096x2048, .f32⟩
  | .hbm, ⟨9, _⟩ => ⟨S4x1x2048, .f32⟩
  | .hbm, ⟨10, _⟩ => ⟨S_, .f32⟩
  | .hbm, ⟨11, _⟩ => ⟨S4x1x2048, .f32⟩
  | .hbm, ⟨12, _⟩ => ⟨S4x1x2048, .f32⟩
  | .hbm, ⟨13, _⟩ => ⟨S_, .f32⟩
  | .hbm, ⟨14, _⟩ => ⟨S4x1x2048, .f32⟩
  | .hbm, ⟨15, _⟩ => ⟨S4x4098x2048, .f32⟩
  | .hbm, ⟨16, _⟩ => ⟨S4x4096x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S16384x2048, .f32⟩
  | .hbm, ⟨37, _⟩ => ⟨S16384x2048, .f32⟩
  | .hbm, ⟨38, _⟩ => ⟨S1x16384x2048, .f32⟩
  | .hbm, ⟨39, _⟩ => ⟨S1x1x2048, .f32⟩
  | .hbm, ⟨40, _⟩ => ⟨S_, .f32⟩
  | .hbm, ⟨41, _⟩ => ⟨S1x1x2048, .f32⟩
  | .hbm, ⟨42, _⟩ => ⟨S1x1x2048, .f32⟩
  | .hbm, ⟨43, _⟩ => ⟨S_, .f32⟩
  | .hbm, ⟨44, _⟩ => ⟨S1x1x2048, .f32⟩
  | .hbm, ⟨45, _⟩ => ⟨S1x16386x2048, .f32⟩
  | .hbm, ⟨46, _⟩ => ⟨S1x16384x2048, .f32⟩
  | .hbm, ⟨47, _⟩ => ⟨S1x2048, .f32⟩
  | .hbm, ⟨48, _⟩ => ⟨S2048, .f32⟩
  | .hbm, ⟨49, _⟩ => ⟨S1x1x2048, .f32⟩
  | .hbm, ⟨50, _⟩ => ⟨S1x16384x2048, .f32⟩
  | .hbm, ⟨51, _⟩ => ⟨S1x16384x2048, .f32⟩
  | .hbm, ⟨52, _⟩ => ⟨S1x16384x2048, .f32⟩
  | .hbm, ⟨53, _⟩ => ⟨S1x2048, .f32⟩
  | .hbm, ⟨54, _⟩ => ⟨S2048, .f32⟩
  | .hbm, ⟨55, _⟩ => ⟨S1x1x2048, .f32⟩
  | .hbm, ⟨56, _⟩ => ⟨S1x16384x2048, .f32⟩
  | .hbm, ⟨57, _⟩ => ⟨S1x16384x2048, .f32⟩
  | .hbm, ⟨58, _⟩ => ⟨S1x16384x2048, .f32⟩
  | .hbm, ⟨59, _⟩ => ⟨S1x16384x2048, .f32⟩
  | .hbm, ⟨60, _⟩ => ⟨S1x2048, .f32⟩
  | .hbm, ⟨61, _⟩ => ⟨S2048, .f32⟩
  | .hbm, ⟨62, _⟩ => ⟨S1x1x2048, .f32⟩
  | .hbm, ⟨63, _⟩ => ⟨S1x16384x2048, .f32⟩
  | .hbm, ⟨64, _⟩ => ⟨S1x16384x2048, .f32⟩
  | .hbm, ⟨65, _⟩ => ⟨S1x16384x2048, .f32⟩
  | .hbm, ⟨66, _⟩ => ⟨S16384x2048, .f32⟩
  | .hbm, ⟨67, _⟩ => ⟨S32768x2048, .f32⟩
  | .hbm, ⟨68, _⟩ => ⟨S32768x2048, .f32⟩
  | .hbm, ⟨69, _⟩ => ⟨S32768x2048, .bf16⟩
  | _, _ => ⟨S32768x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_1 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩

abbrev nD : Nat := 1
abbrev τ : Topo := Topo.v7x

variable {F : FTy → Type} [FloatOps F]
-- ==== MidNorm.lean ====
abbrev S32768x4096 : Shape := ⟨2, ![32768, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S32768x4096, .f32⟩
  | .hbm, ⟨7, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MidNormRefIdeal.lean ====
abbrev S32768x4096 : Shape := ⟨2, ![32768, 4096]⟩
abbrev S4096 : Shape := ⟨1, ![4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S32768x4096, .f32⟩
  | .hbm, ⟨6, _⟩ => ⟨S32768x4096, .f32⟩
  | .hbm, ⟨7, _⟩ => ⟨S32768x4096, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x4096, .f32⟩
  | .hbm, ⟨15, _⟩ => ⟨S32768x4096, .f32⟩
  | .hbm, ⟨16, _⟩ => ⟨S32768x4096, .f32⟩
  | .hbm, ⟨17, _⟩ => ⟨S32768x4096, .f32⟩
  | .hbm, ⟨18, _⟩ => ⟨S32768x4096, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x4096, .f32⟩
  | .hbm, ⟨26, _⟩ => ⟨S32768x4096, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x4096, .f32⟩
  | .hbm, ⟨32, _⟩ => ⟨S32768x4096, .f32⟩
  | .hbm, ⟨33, _⟩ => ⟨S1x4096, .f32⟩
  | .hbm, ⟨34, _⟩ => ⟨S32768x4096, .f32⟩
  | .hbm, ⟨35, _⟩ => ⟨S32768x4096, .f32⟩
  | .hbm, ⟨36, _⟩ => ⟨S1x4096, .f32⟩
  | .hbm, ⟨37, _⟩ => ⟨S32768x4096, .f32⟩
  | .hbm, ⟨38, _⟩ => ⟨S32768x4096, .f32⟩
  | .hbm, ⟨39, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.NormInValue.lean ====
module

public import proofs.«01_k».proof.Defs
public import proofs.«01_k».proof.Proof.Gen.NormInIdeal.Value
public import proofs.«01_k».proof.Proof.Gen.NormInRefIdeal.Run
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem

namespace Cert.NormInIdeal.RefValue

open Cert.NormInIdeal Cert.NormInIdeal.Gen

variable (m : (ℓ : Loc nD τ sig) → Buf (Elt Ideal) ℓ)

/-- The blocks of the output cover the whole output array. -/
theorem covers : (cfg0.win 4).Covers := by decide +kernel

/-- So do the blocks of the rounded output. -/
theorem covers' : (cfg0.win 5).Covers := by decide +kernel

/-- The mean of a row. -/
def mean (x : Fin 4096 → EReal) : EReal := Ideal.div (∑ k, x k) (Ideal.ofBits .f32 0x45800000#32)

/-- A row less its mean. -/
def centred (x : Fin 4096 → EReal) (k : Fin 4096) : EReal := x k - mean x

/-- One entry of the layer norm of row `x` with gain `g` and offset `b`. -/
def normed (x : Fin 4096 → EReal) (k : Fin 4096) (g b : EReal) : EReal :=
  centred x k * Ideal.rsqrt (mean (fun j => centred x j * centred x j) + Ideal.ofBits .f32 0x3727C5AC#32) * g + b

/-- Token row `r`: the first 16384 are the prompts', the rest the sample's. -/
def row (xp xs : S16384x4096.Idx → EReal) (r : Fin 32768) (k : Fin 4096) : EReal :=
  if h : r.val < 16384 then xp (ix2 ⟨r.val, h⟩ k) else xs (ix2 ⟨r.val - 16384, by omega⟩ k)

/-- The layer's input norm: each token row normed, with the gain and offset of its column. -/
def norms (xp xs : S16384x4096.Idx → EReal) (g b : S4096.Idx → EReal) : S32768x4096.Idx → EReal := fun i =>
  normed (row xp xs (i 0)) (i 1) (g (ix1 (i 1))) (b (ix1 (i 1)))

/-- At each step the two outputs' blocks are the same, and which block of the prompts' or the sample's rows goes with them. -/
theorem idx : ∀ t : Fin grid0.N, win0_4.index t = ![t.val, 0] ∧ win0_5.index t = ![t.val, 0]
    ∧ win0_0.index t = ![min t.val 63, 0] ∧ win0_1.index t = ![t.val - 64, 0]
    ∧ win0_2.index t = ![0, 0] ∧ win0_3.index t = ![0, 0] := by decide +kernel

/-- Row `a` of step `t`'s blocks. -/
def at' (t : Fin cfg0.N) (a : Fin 256) : Fin 32768 := ⟨t.val * 256 + a.val, by have := t.isLt; have : cfg0.N = 128 := rfl; omega⟩

/-- In the first sixty-four steps the prompts' block holds the step's rows. -/
theorem block0 (c : Dev nD) (t : Fin cfg0.N) (h : t.val < 64) (a : Fin 256) :
    (fun b => iblk m c 0 t (ix2 a b)) = row (m ((c : Thread nD τ).loc main_arg0)) (m ((c : Thread nD τ).loc main_arg1)) (at' t a) := by
  funext b
  unfold iblk row at'
  rw [show V m c (Pipeline.arrRef spec0 0) = _ from V_main_arg0 m c, dif_pos (by show t.val * 256 + a.val < 16384; omega)]
  blk_point [idx t]

/-- In the other steps the sample's block holds them. -/
theorem block1 (c : Dev nD) (t : Fin cfg0.N) (h : 64 ≤ t.val) (a : Fin 256) :
    (fun b => iblk m c 1 t (ix2 a b)) = row (m ((c : Thread nD τ).loc main_arg0)) (m ((c : Thread nD τ).loc main_arg1)) (at' t a) := by
  funext b
  unfold iblk row at'
  rw [show V m c (Pipeline.arrRef spec0 1) = _ from V_main_arg1 m c, dif_neg (by show ¬t.val * 256 + a.val < 16384; omega)]
  blk_point [idx t]

/-- The gain, the same block at each step. -/
theorem block2 (c : Dev nD) (t : Fin cfg0.N) (b : Fin 4096) : iblk m c 2 t (ix2 0 b) = m ((c : Thread nD τ).loc main_arg2) (ix1 b) := by
  unfold iblk
  rw [show V m c (Pipeline.arrRef spec0 2) = V m c main_v0 from rfl]
  entry_read
  blk_simp
  pointwise
  blk_point [idx t]

/-- The offset, the same block at each step. -/
theorem block3 (c : Dev nD) (t : Fin cfg0.N) (b : Fin 4096) : iblk m c 3 t (ix2 0 b) = m ((c : Thread nD τ).loc main_arg3) (ix1 b) := by
  unfold iblk
  rw [show V m c (Pipeline.arrRef spec0 3) = V m c main_v1 from rfl]
  entry_read
  blk_simp
  pointwise
  blk_point [idx t]

/-- Where entry `y` of step `t`'s block of either output lies. -/
theorem emb4 (t : Fin cfg0.N) (a : Fin 256) (b : Fin 4096) : ((cfg0.win 4).blk t).view.emb (ix2 a b) = ix2 (at' t a) b := by
  unfold at'
  blk_point [idx t]

/-- The same for the second output. -/
theorem emb5 (t : Fin cfg0.N) (a : Fin 256) (b : Fin 4096) : ((cfg0.win 5).blk t).view.emb (ix2 a b) = ix2 (at' t a) b := by
  unfold at'
  blk_point [idx t]

/-- The step's rows normed with its gain and offset are the norms at the step's rows. -/
theorem normed_at (c : Dev nD) (t : Fin cfg0.N) (a : Fin 256) (b : Fin 4096) (x : Fin 4096 → EReal)
    (hx : x = row (m ((c : Thread nD τ).loc main_arg0)) (m ((c : Thread nD τ).loc main_arg1)) (at' t a)) :
    normed x b (iblk m c 2 t (ix2 0 b)) (iblk m c 3 t (ix2 0 b)) = norms (m ((c : Thread nD τ).loc main_arg0)) (m ((c : Thread nD τ).loc main_arg1))
    (m ((c : Thread nD τ).loc main_arg2)) (m ((c : Thread nD τ).loc main_arg3)) (ix2 (at' t a) b) := by
  rw [block2, block3, hx]
  rfl

/-- After the last step the first output array holds the normed rows. -/
theorem final (c : Dev nD) : (dats m 0 c).arrAt 4 cfg0.N = norms (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ covers fun t hf y => ?_
  obtain ⟨a, b, rfl⟩ : ∃ (a : Fin 256) (b : Fin 4096), y = ix2 a b := ⟨y 0, y 1, eq_ix2 y⟩
  blk_simp
  rw [after0_4]
  refine Eq.trans ?_ (congrArg _ (emb4 t a b)).symm
  rcases Nat.lt_or_ge t.val 64 with h | h
  · rw [outsAt0_A m c t h (by omega)]
    dsimp only
    frame_out
    unfold_payloads
    pointwise
    show normed (fun j => iblk m c 0 t (ix2 a j)) b (iblk m c 2 t (ix2 0 b)) (iblk m c 3 t (ix2 0 b)) = _
    exact normed_at m c t a b _ (block0 m c t h a)
  · rw [outsAt0_B m c t (by omega) h]
    dsimp only
    frame_out
    unfold_payloads
    pointwise
    show normed (fun j => iblk m c 1 t (ix2 a j)) b (iblk m c 2 t (ix2 0 b)) (iblk m c 3 t (ix2 0 b)) = _
    exact normed_at m c t a b _ (block1 m c t h a)

/-- And the second holds them rounded, which over the extended reals is the same. -/
theorem final' (c : Dev nD) : (dats m 0 c).arrAt 5 cfg0.N = norms (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ covers' fun t hf y => ?_
  obtain ⟨a, b, rfl⟩ : ∃ (a : Fin 256) (b : Fin 4096), y = ix2 a b := ⟨y 0, y 1, eq_ix2 y⟩
  blk_simp
  rw [after0_5]
  refine Eq.trans ?_ (congrArg _ (emb5 t a b)).symm
  rcases Nat.lt_or_ge t.val 64 with h | h
  · rw [outsAt0_A m c t h (by omega)]
    dsimp only
    frame_out
    unfold_payloads
    pointwise
    show normed (fun j => iblk m c 0 t (ix2 a j)) b (iblk m c 2 t (ix2 0 b)) (iblk m c 3 t (ix2 0 b)) = _
    exact normed_at m c t a b _ (block0 m c t h a)
  · rw [outsAt0_B m c t (by omega) h]
    dsimp only
    frame_out
    unfold_payloads
    pointwise
    show normed (fun j => iblk m c 1 t (ix2 a j)) b (iblk m c 2 t (ix2 0 b)) (iblk m c 3 t (ix2 0 b)) = _
    exact normed_at m c t a b _ (block1 m c t h a)

/-- The reference ends at the same arrays, its arguments kept. -/
theorem reference_run (m : (ℓ : Loc Cert.NormInRefIdeal.nD Cert.NormInRefIdeal.τ Cert.NormInRefIdeal.sig) → Buf (Elt Ideal) ℓ) (ρ) :
    θ_run Cert.NormInRefIdeal.defs (onTc (τ := Cert.NormInRefIdeal.τ) (Cert.NormInRefIdeal.main (F := Ideal))) ⟨m, fun _ => 0, ρ⟩ fun r => ∀ c : Dev nD,
      r.2.mem ((c.tc : Thread Cert.NormInRefIdeal.nD Cert.NormInRefIdeal.τ).loc Cert.NormInRefIdeal.main_v26)
        = norms (m ((c : Thread nD τ).loc Cert.NormInRefIdeal.main_arg0)) (m ((c : Thread nD τ).loc Cert.NormInRefIdeal.main_arg1)) (m ((c : Thread nD τ).loc Cert.NormInRefIdeal.main_arg2)) (m ((c : Thread nD τ).loc Cert.NormInRefIdeal.main_arg3))
      ∧ r.2.mem ((c.tc : Thread Cert.NormInRefIdeal.nD Cert.NormInRefIdeal.τ).loc Cert.NormInRefIdeal.main_v27)
        = norms (m ((c : Thread nD τ).loc Cert.NormInRefIdeal.main_arg0)) (m ((c : Thread nD τ).loc Cert.NormInRefIdeal.main_arg1)) (m ((c : Thread nD τ).loc Cert.NormInRefIdeal.main_arg2)) (m ((c : Thread nD τ).loc Cert.NormInRefIdeal.main_arg3))
      ∧ r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3) := by
  refine (θ_run Cert.NormInRefIdeal.defs _ _).mono (fun r h c => ⟨(h c).1.trans ?_, (h c).2.1.trans ?_, (h c).2.2⟩) (Cert.NormInRefIdeal.Value.run (F := Ideal) m ρ)
  all_goals
    funext i
    clean_types
    pointwise
    rfl

end Cert.NormInIdeal.RefValue
end
-- ==== Proof.HeadNormValue.lean ====
module

public import proofs.«01_k».proof.Defs
public import proofs.«01_k».proof.Proof.Gen.HeadNormIdeal.Value
public import proofs.«01_k».proof.Proof.Gen.HeadNormRefIdeal.Run
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem

namespace Cert.HeadNormIdeal.RefValue

open Cert.HeadNormIdeal Cert.HeadNormIdeal.Gen

variable (m : (ℓ : Loc nD τ sig) → Buf (Elt Ideal) ℓ)

/-- The blocks of the output cover the whole output array. -/
theorem covers : (cfg0.win 4).Covers := by decide +kernel

/-- One entry `x` of a head's root-mean-square norm (the head's entries are `xs`) with weight `w`, times the gate `z`
    through `z · logistic z`. -/
def normed (xs : Fin 128 → EReal) (x w z : EReal) : EReal :=
  x * Ideal.rsqrt (Ideal.div (∑ j, xs j * xs j) (Ideal.ofBits .f32 0x43000000#32) + Ideal.ofBits .f32 0x358637BD#32) * w
    * (z * Ideal.div 1 (1 + Ideal.exp (-z)))

/-- The delta rule's two directions added, normed head by head and gated by columns 6144 to 8191 of the projection. -/
def norms (f b : S32768x2048.Idx → EReal) (z : S32768x28672.Idx → EReal) (w : S128.Idx → EReal) : S32768x2048.Idx → EReal := fun i =>
  have h : (i 1).val < 2048 := (i 1).isLt
  normed (fun j => f (ix2 (i 0) ⟨(i 1).val / 128 * 128 + j.val, by omega⟩) + b (ix2 (i 0) ⟨(i 1).val / 128 * 128 + j.val, by omega⟩))
    (f i + b i) (w (ix1 ⟨(i 1).val % 128, by omega⟩)) (z (ix2 (i 0) ⟨6144 + (i 1).val, by omega⟩))

/-- At each step the blocks that go with the output's. -/
theorem idx : ∀ t : Fin grid0.N, win0_4.index t = ![t.val, 0] ∧ win0_0.index t = ![t.val, 0] ∧ win0_1.index t = ![t.val, 0]
    ∧ win0_2.index t = ![t.val, 3] ∧ win0_3.index t = ![0, 0] := by decide +kernel

/-- Row `a` of step `t`'s blocks. -/
def at' (t : Fin cfg0.N) (a : Fin 256) : Fin 32768 := ⟨t.val * 256 + a.val, by have := t.isLt; have : cfg0.N = 128 := rfl; omega⟩

/-- Step `t`'s block of the forward scan. -/
theorem block0 (c : Dev nD) (t : Fin cfg0.N) (y : S256x2048.Idx) :
    iblk m c 0 t y = m ((c : Thread nD τ).loc main_arg0) (ix2 (at' t (y 0)) (y 1)) := by
  unfold iblk at'
  rw [show V m c (Pipeline.arrRef spec0 0) = _ from V_main_arg0 m c]
  blk_point [idx t]

/-- Step `t`'s block of the backward scan. -/
theorem block1 (c : Dev nD) (t : Fin cfg0.N) (y : S256x2048.Idx) :
    iblk m c 1 t y = m ((c : Thread nD τ).loc main_arg1) (ix2 (at' t (y 0)) (y 1)) := by
  unfold iblk at'
  rw [show V m c (Pipeline.arrRef spec0 1) = _ from V_main_arg1 m c]
  blk_point [idx t]

/-- Step `t`'s block of the gate columns of the projection. -/
theorem block2 (c : Dev nD) (t : Fin cfg0.N) (y : S256x2048.Idx) :
    iblk m c 2 t y = m ((c : Thread nD τ).loc main_arg2) (ix2 (at' t (y 0)) ⟨6144 + (y 1).val, by have h : (y 1).val < 2048 := (y 1).isLt; omega⟩) := by
  unfold iblk at'
  rw [show V m c (Pipeline.arrRef spec0 2) = _ from V_main_arg2 m c]
  blk_point [idx t]

/-- The weights, the same block at each step. -/
theorem block3 (c : Dev nD) (t : Fin cfg0.N) (y : S1x128.Idx) : iblk m c 3 t y = m ((c : Thread nD τ).loc main_arg3) (ix1 (y 1)) := by
  unfold iblk
  rw [show V m c (Pipeline.arrRef spec0 3) = V m c main_v0 from rfl]
  entry_read
  blk_simp
  pointwise
  blk_point [idx t]

/-- Where entry `y` of step `t`'s block of the output lies. -/
theorem emb4 (t : Fin cfg0.N) (y : S256x2048.Idx) : ((cfg0.win 4).blk t).view.emb y = ix2 (at' t (y 0)) (y 1) := by
  unfold at'
  blk_point [idx t]

/-- One head's piece of a step: entry `z₁` in row `z₀` of the head whose columns are `e`, at column `u`, which is entry `y` of the block. -/
theorem piece (c : Dev nD) (t : Fin cfg0.N) (y : S256x2048.Idx) (z₀ : Fin 256) (z₁ : Fin 128) (u : Fin 2048) (e : Fin 128 → Fin 2048)
    (x0 x1 x2 : S256x2048.Idx → EReal) (x3 : S1x128.Idx → EReal) (k0 : x0 = iblk m c 0 t) (k1 : x1 = iblk m c 1 t) (k2 : x2 = iblk m c 2 t) (k3 : x3 = iblk m c 3 t)
    (h0 : (y 0).val = z₀.val) (hu : (y 1).val = u.val) (he : ∀ j, (e j).val = (y 1).val / 128 * 128 + j.val) (hz : (y 1).val % 128 = z₁.val) :
    (x0 (ix2 z₀ u) + x1 (ix2 z₀ u))
      * Ideal.rsqrt (Ideal.div (∑ j, (x0 (ix2 z₀ (e j)) + x1 (ix2 z₀ (e j)))
        * (x0 (ix2 z₀ (e j)) + x1 (ix2 z₀ (e j)))) (Ideal.ofBits .f32 0x43000000#32)
        + Ideal.ofBits .f32 0x358637BD#32) * x3 (ix2 0 z₁)
      * (x2 (ix2 z₀ u) * Ideal.div 1 (1 + Ideal.exp (-x2 (ix2 z₀ u))))
    = norms (m ((c : Thread nD τ).loc main_arg0)) (m ((c : Thread nD τ).loc main_arg1))
        (m ((c : Thread nD τ).loc main_arg2)) (m ((c : Thread nD τ).loc main_arg3)) (((cfg0.win 4).blk t).view.emb y) := by
  subst k0 k1 k2 k3
  obtain rfl : y = ix2 z₀ u := (eq_ix2 y).trans (congrArg₂ ix2 (Fin.ext h0) (Fin.ext hu))
  dsimp only [ix2] at he hz
  obtain rfl : e = fun j => ⟨u.val / 128 * 128 + j.val, by omega⟩ := funext fun j => Fin.ext (he j)
  obtain rfl : z₁ = ⟨u.val % 128, Nat.mod_lt _ (by decide)⟩ := Fin.ext hz.symm
  rw [emb4]
  simp only [block0, block1, block2, block3]
  rfl

/-- After the last step the output array holds the normed and gated heads. -/
theorem final (c : Dev nD) : (dats m 0 c).arrAt 4 cfg0.N = norms (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ covers fun t hf y => ?_
  blk_simp
  rw [after0_4]
  unfold_out out0_4
  canon_tiles z h
  all_goals
    unfold_payloads
    pointwise
    simp only [zero_sub]
    refine piece m c t y _ _ _ _ _ _ _ _ rfl rfl rfl rfl h0 ?_ ?_ ?_
    · (try dsimp only) <;> omega
    · intro j
      dsimp only
      omega
    · omega

/-- The reference ends at the same arrays, its arguments kept. -/
theorem reference_run (m : (ℓ : Loc Cert.HeadNormRefIdeal.nD Cert.HeadNormRefIdeal.τ Cert.HeadNormRefIdeal.sig) → Buf (Elt Ideal) ℓ) (ρ) :
    θ_run Cert.HeadNormRefIdeal.defs (onTc (τ := Cert.HeadNormRefIdeal.τ) (Cert.HeadNormRefIdeal.main (F := Ideal))) ⟨m, fun _ => 0, ρ⟩ fun r => ∀ c : Dev nD,
      r.2.mem ((c.tc : Thread Cert.HeadNormRefIdeal.nD Cert.HeadNormRefIdeal.τ).loc Cert.HeadNormRefIdeal.main_v27)
        = norms (m ((c : Thread Cert.HeadNormRefIdeal.nD Cert.HeadNormRefIdeal.τ).loc Cert.HeadNormRefIdeal.main_arg0)) (m ((c : Thread nD τ).loc Cert.HeadNormRefIdeal.main_arg1)) (m ((c : Thread nD τ).loc Cert.HeadNormRefIdeal.main_arg2)) (m ((c : Thread nD τ).loc Cert.HeadNormRefIdeal.main_arg3))
      ∧ r.2.mem ((c.tc : Thread Cert.HeadNormRefIdeal.nD Cert.HeadNormRefIdeal.τ).loc Cert.HeadNormRefIdeal.main_arg0) = m ((c.tc : Thread Cert.HeadNormRefIdeal.nD Cert.HeadNormRefIdeal.τ).loc Cert.HeadNormRefIdeal.main_arg0)
      ∧ r.2.mem ((c.tc : Thread Cert.HeadNormRefIdeal.nD Cert.HeadNormRefIdeal.τ).loc Cert.HeadNormRefIdeal.main_arg1) = m ((c.tc : Thread Cert.HeadNormRefIdeal.nD Cert.HeadNormRefIdeal.τ).loc Cert.HeadNormRefIdeal.main_arg1)
      ∧ r.2.mem ((c.tc : Thread Cert.HeadNormRefIdeal.nD Cert.HeadNormRefIdeal.τ).loc Cert.HeadNormRefIdeal.main_arg2) = m ((c.tc : Thread Cert.HeadNormRefIdeal.nD Cert.HeadNormRefIdeal.τ).loc Cert.HeadNormRefIdeal.main_arg2)
      ∧ r.2.mem ((c.tc : Thread Cert.HeadNormRefIdeal.nD Cert.HeadNormRefIdeal.τ).loc Cert.HeadNormRefIdeal.main_arg3) = m ((c.tc : Thread Cert.HeadNormRefIdeal.nD Cert.HeadNormRefIdeal.τ).loc Cert.HeadNormRefIdeal.main_arg3) := by
  refine (θ_run Cert.HeadNormRefIdeal.defs _ _).mono (fun r h c => ⟨(h c).1.trans ?_, (h c).2⟩) (Cert.HeadNormRefIdeal.Value.run (F := Ideal) m ρ)
  funext i
  clean_types
  pointwise
  rfl

end Cert.HeadNormIdeal.RefValue
end
-- ==== Proof.ConvValue.lean ====
module

public import proofs.«01_k».proof.Defs
public import proofs.«01_k».proof.Proof.Gen.ConvIdeal.Value
public import proofs.«01_k».proof.Proof.Gen.ConvRefIdeal.Read
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem

namespace Cert.ConvIdeal.RefValue

open Cert.ConvIdeal Cert.ConvIdeal.Gen

variable (m : (ℓ : Loc nD τ sig) → Buf (Elt Ideal) ℓ)

/-- The blocks of the output cover the whole output array. -/
theorem covers : (cfg0.win 8).Covers := by decide +kernel

/-- The convolution's input at row `r`: the second gate times the state. -/
def gated (z : S32768x28672.Idx → EReal) (r : Fin 32768) (q : Fin 2048) : EReal :=
  z (ix2 r ⟨10240 + q.val, by omega⟩) * z (ix2 r ⟨12288 + q.val, by omega⟩)

/-- Its row before `r`, zero where `r` begins a sequence: the first four have 4096 rows each, the fifth has the rest. -/
def before (z : S32768x28672.Idx → EReal) (r : Fin 32768) (q : Fin 2048) : EReal :=
  if r.val % 4096 = 0 ∧ r.val ≤ 16384 then 0 else gated z ⟨r.val - 1, by omega⟩ q

/-- Its row after `r`, zero where `r` ends a sequence. -/
def after (z : S32768x28672.Idx → EReal) (r : Fin 32768) (q : Fin 2048) : EReal :=
  if h : ((r.val + 1) % 4096 = 0 ∧ r.val + 1 ≤ 16384) ∨ r.val + 1 = 32768 then 0 else gated z ⟨r.val + 1, by omega⟩ q

/-- The branch at row `r` and channel `q`: the first gate times the three taps. -/
def branch (z : S32768x28672.Idx → EReal) (w : S3x2048.Idx → EReal) (r : Fin 32768) (q : Fin 2048) : EReal :=
  z (ix2 r ⟨8192 + q.val, by omega⟩)
    * (before z r q * w (ix2 0 q) + gated z r q * w (ix2 1 q) + after z r q * w (ix2 2 q))

/-- The whole branch. -/
def norms (z : S32768x28672.Idx → EReal) (w : S3x2048.Idx → EReal) : S32768x2048.Idx → EReal := fun i => branch z w (i 0) (i 1)

/-- The block indices that go with a step: the step's own rows, and the sixteen rows before and after them (kept inside the array). -/
theorem idx : ∀ t : Fin grid0.N, win0_8.index t = ![t.val, 0] ∧ win0_0.index t = ![t.val, 4] ∧ win0_1.index t = ![t.val, 5]
    ∧ win0_2.index t = ![t.val * 16 - 1, 5] ∧ win0_3.index t = ![min (t.val * 16 + 16) 2047, 5]
    ∧ win0_4.index t = ![t.val, 6]
    ∧ win0_5.index t = ![t.val * 16 - 1, 6] ∧ win0_6.index t = ![min (t.val * 16 + 16) 2047, 6]
    ∧ win0_7.index t = ![0, 0] := by decide +kernel

/-- Row `a` of step `t`'s blocks. -/
def at' (t : Fin cfg0.N) (a : Fin 256) : Fin 32768 := ⟨t.val * 256 + a.val, by have := t.isLt; have : cfg0.N = 128 := rfl; omega⟩

/-- Where the body's two conditions hold: the step's rows begin a sequence, or end one. -/
theorem conds (t : Fin grid0.N) : ∃ a b : BitVec 1,
    (a = if t.val % 16 = 0 ∧ t.val ≤ 64 then 1#1 else 0#1)
    ∧ (b = if ((t.val + 1) % 16 = 0 ∧ t.val + 1 ≤ 64) ∨ t.val + 1 = 128 then 1#1 else 0#1)
    ∧ ∀ x0 x1 x2 x3 x4 x5 x6 x7, out0_8 (F := Ideal) (grid0.coords t) x0 x1 x2 x3 x4 x5 x6 x7
      = View.canon [⟨r0_0, k0_pay1 (k0_pay3 a b (k0_pay2 (View.ld x1 r0_0) (View.ld x4 r0_0)) (View.ld x2 r0_1) (View.ld x5 r0_1)
          (View.ld x3 r0_2) (View.ld x6 r0_2) (View.ld x7 r0_3) (View.ld x7 r0_4) (View.ld x7 r0_5)) (View.ld x0 r0_0)⟩] := by
  refine ⟨_, _, ?_, ?_, fun _ _ _ _ _ _ _ _ => rfl⟩ <;> revert t <;> decide +kernel

/-- The first gate's block. -/
theorem block0 (c : Dev nD) (t : Fin cfg0.N) (a : Fin 256) (q : Fin 2048) :
    iblk m c 0 t (ix2 a q) = m ((c : Thread nD τ).loc main_arg0) (ix2 (at' t a) ⟨8192 + q.val, by omega⟩) := by
  unfold iblk at'
  rw [show V m c (Pipeline.arrRef spec0 0) = _ from V_main_arg0 m c]
  blk_point [idx t]

/-- The second gate's block, -/
theorem block1 (c : Dev nD) (t : Fin cfg0.N) (a : Fin 256) (q : Fin 2048) :
    iblk m c 1 t (ix2 a q) = m ((c : Thread nD τ).loc main_arg0) (ix2 (at' t a) ⟨10240 + q.val, by omega⟩) := by
  unfold iblk at'
  rw [show V m c (Pipeline.arrRef spec0 1) = _ from V_main_arg0 m c]
  blk_point [idx t]

/-- the rows before it -/
theorem block2 (c : Dev nD) (t : Fin cfg0.N) (a : Fin 16) (q : Fin 2048) :
    iblk m c 2 t (ix2 a q) = m ((c : Thread nD τ).loc main_arg0) (ix2 ⟨(t.val * 16 - 1) * 16 + a.val, by have := t.isLt; have : cfg0.N = 128 := rfl; omega⟩ ⟨10240 + q.val, by omega⟩) := by
  unfold iblk
  rw [show V m c (Pipeline.arrRef spec0 2) = _ from V_main_arg0 m c]
  blk_point [idx t]

/-- and after it. -/
theorem block3 (c : Dev nD) (t : Fin cfg0.N) (a : Fin 16) (q : Fin 2048) :
    iblk m c 3 t (ix2 a q) = m ((c : Thread nD τ).loc main_arg0) (ix2 ⟨min (t.val * 16 + 16) 2047 * 16 + a.val, by have := t.isLt; have : cfg0.N = 128 := rfl; omega⟩ ⟨10240 + q.val, by omega⟩) := by
  unfold iblk
  rw [show V m c (Pipeline.arrRef spec0 3) = _ from V_main_arg0 m c]
  blk_point [idx t]

/-- The state's block, -/
theorem block4 (c : Dev nD) (t : Fin cfg0.N) (a : Fin 256) (q : Fin 2048) :
    iblk m c 4 t (ix2 a q) = m ((c : Thread nD τ).loc main_arg0) (ix2 (at' t a) ⟨12288 + q.val, by omega⟩) := by
  unfold iblk at'
  rw [show V m c (Pipeline.arrRef spec0 4) = _ from V_main_arg0 m c]
  blk_point [idx t]

/-- the rows before it -/
theorem block5 (c : Dev nD) (t : Fin cfg0.N) (a : Fin 16) (q : Fin 2048) :
    iblk m c 5 t (ix2 a q) = m ((c : Thread nD τ).loc main_arg0) (ix2 ⟨(t.val * 16 - 1) * 16 + a.val, by have := t.isLt; have : cfg0.N = 128 := rfl; omega⟩ ⟨12288 + q.val, by omega⟩) := by
  unfold iblk
  rw [show V m c (Pipeline.arrRef spec0 5) = _ from V_main_arg0 m c]
  blk_point [idx t]

/-- and after it. -/
theorem block6 (c : Dev nD) (t : Fin cfg0.N) (a : Fin 16) (q : Fin 2048) :
    iblk m c 6 t (ix2 a q) = m ((c : Thread nD τ).loc main_arg0) (ix2 ⟨min (t.val * 16 + 16) 2047 * 16 + a.val, by have := t.isLt; have : cfg0.N = 128 := rfl; omega⟩ ⟨12288 + q.val, by omega⟩) := by
  unfold iblk
  rw [show V m c (Pipeline.arrRef spec0 6) = _ from V_main_arg0 m c]
  blk_point [idx t]

/-- The taps, the same block at each step. -/
theorem block7 (c : Dev nD) (t : Fin cfg0.N) (a : Fin 3) (q : Fin 2048) : iblk m c 7 t (ix2 a q) = m ((c : Thread nD τ).loc main_arg1) (ix2 a q) := by
  unfold iblk
  rw [show V m c (Pipeline.arrRef spec0 7) = _ from V_main_arg1 m c]
  blk_point [idx t]

/-- Where entry `(a, q)` of step `t`'s block of the output lies. -/
theorem emb8 (t : Fin cfg0.N) (a : Fin 256) (q : Fin 2048) : ((cfg0.win 8).blk t).view.emb (ix2 a q) = ix2 (at' t a) q := by
  unfold at'
  blk_point [idx t]

/-- The first row of a block, as the body finds it. -/
theorem first_row : ∀ a : Fin 256, IntOp.cmpi .eq (BitVec.ofNat 32 a.val) 0#32 = if a.val = 0 then 1#1 else 0#1 := by decide +kernel

/-- And the last. -/
theorem last_row : ∀ a : Fin 256, IntOp.cmpi .eq (BitVec.ofNat 32 a.val) 255#32 = if a.val = 255 then 1#1 else 0#1 := by decide +kernel

/-- Choosing by a bit that tells whether `p` holds. -/
theorem choose {p : Prop} [Decidable p] (x y : EReal) : Scalar.select (if p then 1#1 else 0#1) x y = if p then x else y := by
  by_cases h : p <;> simp only [h, if_true, if_false] <;> rfl

/-- The row before: in the block, or the last of the sixteen before it, or zero. -/
theorem before_at (z : S32768x28672.Idx → EReal) (t : Fin cfg0.N) (a : Fin 256) (q : Fin 2048) (r s : Fin 32768)
    (hr : r.val = (t.val * 16 - 1) * 16 + 15) (hs : s.val = t.val * 256 + (a.val + 256 - 1) % 256) :
    (if a.val = 0 then if t.val % 16 = 0 ∧ t.val ≤ 64 then 0 else gated z r q else gated z s q) = before z (at' t a) q := by
  unfold before at'
  dsimp only
  by_cases ha : a.val = 0
  · by_cases ht : t.val % 16 = 0 ∧ t.val ≤ 64
    · rw [if_pos ha, if_pos ht, if_pos (by omega)]
    · rw [if_pos ha, if_neg ht, if_neg (by omega)]
      exact congrArg (gated z · q) (Fin.ext (by dsimp only; omega))
  · rw [if_neg ha, if_neg (by omega)]
    exact congrArg (gated z · q) (Fin.ext (by dsimp only; omega))

/-- The row after: in the block, or the first of the sixteen after it, or zero. -/
theorem after_at (z : S32768x28672.Idx → EReal) (t : Fin cfg0.N) (a : Fin 256) (q : Fin 2048) (r s : Fin 32768)
    (hr : r.val = min (t.val * 16 + 16) 2047 * 16) (hs : s.val = t.val * 256 + (a.val + 256 - 255) % 256) :
    (if a.val = 255 then if ((t.val + 1) % 16 = 0 ∧ t.val + 1 ≤ 64) ∨ t.val + 1 = 128 then 0 else gated z r q else gated z s q)
      = after z (at' t a) q := by
  have hN : t.val < 128 := t.isLt
  unfold after at'
  dsimp only
  by_cases ha : a.val = 255
  · by_cases ht : ((t.val + 1) % 16 = 0 ∧ t.val + 1 ≤ 64) ∨ t.val + 1 = 128
    · rw [if_pos ha, if_pos ht, dif_pos (by omega)]
    · rw [if_pos ha, if_neg ht, dif_neg (by omega)]
      exact congrArg (gated z · q) (Fin.ext (by dsimp only; omega))
  · rw [if_neg ha, dif_neg (by omega)]
    exact congrArg (gated z · q) (Fin.ext (by dsimp only; omega))

/-- After the last step the output array holds the branch. -/
theorem final (c : Dev nD) : (dats m 0 c).arrAt 8 cfg0.N = norms (m ((c : Thread nD τ).loc main_arg0)) (m ((c : Thread nD τ).loc main_arg1)) := by
  refine (dats m 0 c).arrAt_eq_of_covers 8 _ covers fun t hf y => ?_
  obtain ⟨a, q, rfl⟩ : ∃ (a : Fin 256) (q : Fin 2048), y = ix2 a q := ⟨y 0, y 1, eq_ix2 y⟩
  blk_simp
  rw [after0_8]
  refine Eq.trans ?_ (congrArg _ (emb8 t a q)).symm
  obtain ⟨u, v, hu, hv, hw⟩ := conds t
  rw [hw]
  frame_out
  unfold_payloads
  pointwise
  rw [block0, block1, block1, block1, block2, block3, block4, block4, block4, block5, block6, block7, block7, block7, first_row, last_row, hu, hv]
  simp only [choose]
  show _ = branch (m ((c : Thread nD τ).loc main_arg0)) (m ((c : Thread nD τ).loc main_arg1)) (at' t a) q
  unfold branch
  have hN : t.val < 128 := t.isLt
  rw [← before_at _ t a q ⟨(t.val * 16 - 1) * 16 + 15, by omega⟩ (at' t ⟨(a.val + 256 - 1) % 256, by omega⟩) rfl rfl,
    ← after_at _ t a q ⟨min (t.val * 16 + 16) 2047 * 16, by omega⟩ (at' t ⟨(a.val + 256 - 255) % 256, by omega⟩) rfl rfl]
  rfl

open Cert.ConvRefIdeal.Read

/-- A row of the convolution's input, in the reference. -/
theorem v4_at (z : S32768x28672.Idx → EReal) (r : Fin 32768) (q : Fin 2048) : val_main_v4 (F := Ideal) z (ix2 r q) = gated z r q := by
  rw [val_main_v4_apply, val_main_v2_apply, val_main_v3_apply, val_main_v0_apply, val_main_v0_apply]
  exact congrArg₂ (· * ·) (congrArg z (eq_ix2 _)) (congrArg z (eq_ix2 _))

/-- The prompts' rows with a zero row at either end of each sequence. -/
theorem v11_at (z : S32768x28672.Idx → EReal) (b : Fin 4) (s : Fin 4098) (q : Fin 2048) : val_main_v11 (F := Ideal) z (ix3 b s q)
    = if h : 1 ≤ s.val ∧ s.val ≤ 4096 then gated z ⟨b.val * 4096 + (s.val - 1), by omega⟩ q else 0 := by
  unfold val_main_v11
  pointwise
  have e : ∀ (s' : Fin 4096) (r : Fin 32768), r.val = b.val * 4096 + s'.val → val_main_v6 (F := Ideal) z (ix3 b s' q) = gated z r q := by
    intro s' r hr
    rw [val_main_v6_apply, val_main_v5_apply, ← v4_at]
    refine congrArg (val_main_v4 (F := Ideal) z) ((eq_ix2 _).trans (congrArg₂ ix2 (Fin.ext ?_) (Fin.ext ?_)))
    · show ((b.val * 4096 + s'.val) * 2048 + q.val) / 2048 = r.val
      omega
    · show ((b.val * 4096 + s'.val) * 2048 + q.val) % 2048 = q.val
      omega
  by_cases h0 : s.val < 1
  · rw [dif_pos h0, dif_neg (by omega), val_main_v8_apply, val_main_cst_apply]
    pointwise
  · by_cases h1 : s.val - 1 < 4096
    · rw [dif_neg h0, dif_pos h1, dif_pos (by omega)]
      exact e _ _ rfl
    · rw [dif_neg h0, dif_neg h1, dif_neg (by omega), val_main_v10_apply, val_main_cst_0_apply]
      pointwise

/-- The prompts' rows convolved. -/
theorem v32_at (z : S32768x28672.Idx → EReal) (w : S3x2048.Idx → EReal) (r : Fin 16384) (q : Fin 2048) (r' : Fin 32768) (hr : r'.val = r.val) :
    val_main_v32 (F := Ideal) z w (ix2 r q)
      = before z r' q * w (ix2 0 q) + gated z r' q * w (ix2 1 q) + after z r' q * w (ix2 2 q) := by
  simp only [val_main_v32_apply, val_main_v31_apply, val_main_v30_apply, val_main_v24_apply, val_main_v23_apply, val_main_v17_apply, val_main_v12_apply, val_main_v18_apply, val_main_v25_apply, val_main_v16_apply, val_main_v15_apply, val_main_v14_apply, val_main_v13_apply, val_main_v22_apply, val_main_v21_apply, val_main_v20_apply, val_main_v19_apply, val_main_v29_apply, val_main_v28_apply, val_main_v27_apply, val_main_v26_apply]
  have e0 : idx_main_v12 (idx_main_v32 (ix2 r q)) = ix3 ⟨r.val / 4096, by omega⟩ ⟨r.val % 4096, by omega⟩ q :=
    funext fun a => match a with
    | ⟨0, _⟩ => Fin.ext (by show (r.val * 2048 + q.val) / 8388608 = r.val / 4096; omega)
    | ⟨1, _⟩ => Fin.ext (by show (r.val * 2048 + q.val) / 2048 % 4096 = r.val % 4096; omega)
    | ⟨2, _⟩ => Fin.ext (by show (r.val * 2048 + q.val) % 2048 = q.val; omega)
  have w0 : (idx_main_v13 (idx_main_v14 (idx_main_v15 (idx_main_v16 (idx_main_v32 (ix2 r q)))))) = ix2 0 q :=
    funext fun a => match a with
    | ⟨0, _⟩ => rfl
    | ⟨1, _⟩ => Fin.ext (by show (r.val * 2048 + q.val) % 2048 % 2048 = q.val; omega)
  have e1 : idx_main_v18 (idx_main_v32 (ix2 r q)) = ix3 ⟨r.val / 4096, by omega⟩ ⟨r.val % 4096 + 1, by omega⟩ q :=
    funext fun a => match a with
    | ⟨0, _⟩ => Fin.ext (by show (r.val * 2048 + q.val) / 8388608 = r.val / 4096; omega)
    | ⟨1, _⟩ => Fin.ext (by show 1 + (r.val * 2048 + q.val) / 2048 % 4096 = r.val % 4096 + 1; omega)
    | ⟨2, _⟩ => Fin.ext (by show (r.val * 2048 + q.val) % 2048 = q.val; omega)
  have w1 : (idx_main_v19 (idx_main_v20 (idx_main_v21 (idx_main_v22 (idx_main_v32 (ix2 r q)))))) = ix2 1 q :=
    funext fun a => match a with
    | ⟨0, _⟩ => rfl
    | ⟨1, _⟩ => Fin.ext (by show (r.val * 2048 + q.val) % 2048 % 2048 = q.val; omega)
  have e2 : idx_main_v25 (idx_main_v32 (ix2 r q)) = ix3 ⟨r.val / 4096, by omega⟩ ⟨r.val % 4096 + 2, by omega⟩ q :=
    funext fun a => match a with
    | ⟨0, _⟩ => Fin.ext (by show (r.val * 2048 + q.val) / 8388608 = r.val / 4096; omega)
    | ⟨1, _⟩ => Fin.ext (by show 2 + (r.val * 2048 + q.val) / 2048 % 4096 = r.val % 4096 + 2; omega)
    | ⟨2, _⟩ => Fin.ext (by show (r.val * 2048 + q.val) % 2048 = q.val; omega)
  have w2 : (idx_main_v26 (idx_main_v27 (idx_main_v28 (idx_main_v29 (idx_main_v32 (ix2 r q)))))) = ix2 2 q :=
    funext fun a => match a with
    | ⟨0, _⟩ => rfl
    | ⟨1, _⟩ => Fin.ext (by show (r.val * 2048 + q.val) % 2048 % 2048 = q.val; omega)
  rw [e0, e1, e2, w0, w1, w2, v11_at, v11_at, v11_at]
  have f0 : (if h : 1 ≤ r.val % 4096 ∧ r.val % 4096 ≤ 4096 then gated z ⟨r.val / 4096 * 4096 + (r.val % 4096 - 1), by omega⟩ q else 0) = before z r' q := by
    unfold before
    by_cases h : r.val % 4096 = 0
    · rw [dif_neg (by omega), if_pos (by omega)]
    · rw [dif_pos (by omega), if_neg (by omega)]
      exact congrArg (gated z · q) (Fin.ext (by dsimp only; omega))
  have f1 : (if h : 1 ≤ r.val % 4096 + 1 ∧ r.val % 4096 + 1 ≤ 4096 then gated z ⟨r.val / 4096 * 4096 + (r.val % 4096 + 1 - 1), by omega⟩ q else 0) = gated z r' q := by
    rw [dif_pos (by omega)]
    exact congrArg (gated z · q) (Fin.ext (by dsimp only; omega))
  have f2 : (if h : 1 ≤ r.val % 4096 + 2 ∧ r.val % 4096 + 2 ≤ 4096 then gated z ⟨r.val / 4096 * 4096 + (r.val % 4096 + 2 - 1), by omega⟩ q else 0) = after z r' q := by
    unfold after
    by_cases h : r.val % 4096 + 2 ≤ 4096
    · rw [dif_pos (by omega), dif_neg (by omega)]
      exact congrArg (gated z · q) (Fin.ext (by dsimp only; omega))
    · rw [dif_neg (by omega), dif_pos (by omega)]
  rw [← f0, ← f1, ← f2]
  rfl

/-- The sample's rows with a zero row at either end of each sequence. -/
theorem v39_at (z : S32768x28672.Idx → EReal) (b : Fin 1) (s : Fin 16386) (q : Fin 2048) : val_main_v39 (F := Ideal) z (ix3 b s q)
    = if h : 1 ≤ s.val ∧ s.val ≤ 16384 then gated z ⟨16384 + (s.val - 1), by omega⟩ q else 0 := by
  obtain rfl : b = 0 := Subsingleton.elim _ _
  unfold val_main_v39
  pointwise
  have e : ∀ (s' : Fin 16384) (r : Fin 32768), r.val = 16384 + s'.val → val_main_v34 (F := Ideal) z (ix3 0 s' q) = gated z r q := by
    intro s' r hr
    rw [val_main_v34_apply, val_main_v33_apply, ← v4_at]
    refine congrArg (val_main_v4 (F := Ideal) z) ((eq_ix2 _).trans (congrArg₂ ix2 (Fin.ext ?_) (Fin.ext ?_)))
    · show 16384 + ((0 * 16384 + s'.val) * 2048 + q.val) / 2048 = r.val
      omega
    · show ((0 * 16384 + s'.val) * 2048 + q.val) % 2048 = q.val
      omega
  by_cases h0 : s.val < 1
  · rw [dif_pos h0, dif_neg (by omega), val_main_v36_apply, val_main_cst_1_apply]
    pointwise
  · by_cases h1 : s.val - 1 < 16384
    · rw [dif_neg h0, dif_pos h1, dif_pos (by omega)]
      exact e ⟨s.val - 1, h1⟩ ⟨16384 + (s.val - 1), by omega⟩ (by dsimp only)
    · rw [dif_neg h0, dif_neg h1, dif_neg (by omega), val_main_v38_apply, val_main_cst_2_apply]
      pointwise

/-- The sample's rows convolved. -/
theorem v60_at (z : S32768x28672.Idx → EReal) (w : S3x2048.Idx → EReal) (r : Fin 16384) (q : Fin 2048) (r' : Fin 32768) (hr : r'.val = 16384 + r.val) :
    val_main_v60 (F := Ideal) z w (ix2 r q)
      = before z r' q * w (ix2 0 q) + gated z r' q * w (ix2 1 q) + after z r' q * w (ix2 2 q) := by
  simp only [val_main_v60_apply, val_main_v59_apply, val_main_v58_apply, val_main_v52_apply, val_main_v51_apply, val_main_v45_apply, val_main_v40_apply, val_main_v46_apply, val_main_v53_apply, val_main_v44_apply, val_main_v43_apply, val_main_v42_apply, val_main_v41_apply, val_main_v50_apply, val_main_v49_apply, val_main_v48_apply, val_main_v47_apply, val_main_v57_apply, val_main_v56_apply, val_main_v55_apply, val_main_v54_apply]
  have e0 : idx_main_v40 (idx_main_v60 (ix2 r q)) = ix3 0 ⟨r.val, by omega⟩ q :=
    funext fun a => match a with
    | ⟨0, _⟩ => Fin.ext (by rfl)
    | ⟨1, _⟩ => Fin.ext (by show (r.val * 2048 + q.val) / 2048 % 16384 = r.val; omega)
    | ⟨2, _⟩ => Fin.ext (by show (r.val * 2048 + q.val) % 2048 = q.val; omega)
  have w0 : (idx_main_v41 (idx_main_v42 (idx_main_v43 (idx_main_v44 (idx_main_v60 (ix2 r q)))))) = ix2 0 q :=
    funext fun a => match a with
    | ⟨0, _⟩ => rfl
    | ⟨1, _⟩ => Fin.ext (by show (r.val * 2048 + q.val) % 2048 % 2048 = q.val; omega)
  have e1 : idx_main_v46 (idx_main_v60 (ix2 r q)) = ix3 0 ⟨r.val + 1, by omega⟩ q :=
    funext fun a => match a with
    | ⟨0, _⟩ => Fin.ext (by rfl)
    | ⟨1, _⟩ => Fin.ext (by show 1 + (r.val * 2048 + q.val) / 2048 % 16384 = r.val + 1; omega)
    | ⟨2, _⟩ => Fin.ext (by show (r.val * 2048 + q.val) % 2048 = q.val; omega)
  have w1 : (idx_main_v47 (idx_main_v48 (idx_main_v49 (idx_main_v50 (idx_main_v60 (ix2 r q)))))) = ix2 1 q :=
    funext fun a => match a with
    | ⟨0, _⟩ => rfl
    | ⟨1, _⟩ => Fin.ext (by show (r.val * 2048 + q.val) % 2048 % 2048 = q.val; omega)
  have e2 : idx_main_v53 (idx_main_v60 (ix2 r q)) = ix3 0 ⟨r.val + 2, by omega⟩ q :=
    funext fun a => match a with
    | ⟨0, _⟩ => Fin.ext (by rfl)
    | ⟨1, _⟩ => Fin.ext (by show 2 + (r.val * 2048 + q.val) / 2048 % 16384 = r.val + 2; omega)
    | ⟨2, _⟩ => Fin.ext (by show (r.val * 2048 + q.val) % 2048 = q.val; omega)
  have w2 : (idx_main_v54 (idx_main_v55 (idx_main_v56 (idx_main_v57 (idx_main_v60 (ix2 r q)))))) = ix2 2 q :=
    funext fun a => match a with
    | ⟨0, _⟩ => rfl
    | ⟨1, _⟩ => Fin.ext (by show (r.val * 2048 + q.val) % 2048 % 2048 = q.val; omega)
  rw [e0, e1, e2, w0, w1, w2, v39_at, v39_at, v39_at]
  have f0 : (if h : 1 ≤ r.val ∧ r.val ≤ 16384 then gated z ⟨16384 + (r.val - 1), by omega⟩ q else 0) = before z r' q := by
    unfold before
    by_cases h : r.val = 0
    · rw [dif_neg (by omega), if_pos (by omega)]
    · rw [dif_pos (by omega), if_neg (by omega)]
      exact congrArg (gated z · q) (Fin.ext (by dsimp only; omega))
  have f1 : (if h : 1 ≤ r.val + 1 ∧ r.val + 1 ≤ 16384 then gated z ⟨16384 + (r.val + 1 - 1), by omega⟩ q else 0) = gated z r' q := by
    rw [dif_pos (by omega)]
    exact congrArg (gated z · q) (Fin.ext (by dsimp only; omega))
  have f2 : (if h : 1 ≤ r.val + 2 ∧ r.val + 2 ≤ 16384 then gated z ⟨16384 + (r.val + 2 - 1), by omega⟩ q else 0) = after z r' q := by
    unfold after
    by_cases h : r.val + 2 ≤ 16384
    · rw [dif_pos (by omega), dif_neg (by omega)]
      exact congrArg (gated z · q) (Fin.ext (by dsimp only; omega))
    · rw [dif_neg (by omega), dif_pos (by omega)]
  rw [← f0, ← f1, ← f2]
  rfl

/-- The reference's result is the branch. -/
theorem reference_eq (z : S32768x28672.Idx → EReal) (w : S3x2048.Idx → EReal) : val_main_v63 (F := Ideal) z w = norms z w := by
  funext i
  obtain ⟨r, q, rfl⟩ : ∃ (r : Fin 32768) (q : Fin 2048), i = ix2 r q := ⟨i 0, i 1, eq_ix2 i⟩
  rw [val_main_v63_apply, val_main_v62_apply, val_main_v1_apply, val_main_v0_apply]
  show z (idx_main_v1 (ix2 r q)) * val_main_v61 (F := Ideal) z w (ix2 r q) = branch z w r q
  unfold branch
  refine congrArg₂ (· * ·) (congrArg z (eq_ix2 _)) ?_
  unfold val_main_v61
  pointwise
  by_cases h : r.val < 16384
  · rw [dif_pos h]
    exact v32_at z w ⟨r.val, h⟩ q r rfl
  · rw [dif_neg h]
    exact v60_at z w ⟨r.val - 16384, by omega⟩ q r (by dsimp only; omega)

/-- The reference ends at the same array, its arguments kept. -/
theorem reference_run (m : (ℓ : Loc Cert.ConvRefIdeal.nD Cert.ConvRefIdeal.τ Cert.ConvRefIdeal.sig) → Buf (Elt Ideal) ℓ) (ρ) :
    θ_run Cert.ConvRefIdeal.defs (onTc (τ := Cert.ConvRefIdeal.τ) (Cert.ConvRefIdeal.main (F := Ideal))) ⟨m, fun _ => 0, ρ⟩ fun r => ∀ c : Dev nD,
      r.2.mem ((c.tc : Thread Cert.ConvRefIdeal.nD Cert.ConvRefIdeal.τ).loc Cert.ConvRefIdeal.main_v63)
        = norms (m ((c : Thread Cert.ConvRefIdeal.nD Cert.ConvRefIdeal.τ).loc Cert.ConvRefIdeal.main_arg0)) (m ((c : Thread Cert.ConvRefIdeal.nD Cert.ConvRefIdeal.τ).loc Cert.ConvRefIdeal.main_arg1))
      ∧ r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1) := by
  refine (θ_run Cert.ConvRefIdeal.defs _ _).mono (fun r h c => ⟨(h c).1.trans ?_, (h c).2⟩) (Cert.ConvRefIdeal.Value.run (F := Ideal) m ρ)
  rw [val_main_v63_eq]
  exact reference_eq _ _

end Cert.ConvIdeal.RefValue
end
-- ==== Proof.MidNormValue.lean ====
module

public import proofs.«01_k».proof.Defs
public import proofs.«01_k».proof.Proof.Gen.MidNormIdeal.Value
public import proofs.«01_k».proof.Proof.Gen.MidNormRefIdeal.Run
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem

namespace Cert.MidNormIdeal.RefValue

open Cert.MidNormIdeal Cert.MidNormIdeal.Gen

variable (m : (ℓ : Loc nD τ sig) → Buf (Elt Ideal) ℓ)

/-- The blocks of the output cover the whole output array. -/
theorem covers : (cfg0.win 4).Covers := by decide +kernel

/-- So do the blocks of the rounded output. -/
theorem covers' : (cfg0.win 5).Covers := by decide +kernel

/-- The mean of a row. -/
def mean (x : Fin 4096 → EReal) : EReal := Ideal.div (∑ k, x k) (Ideal.ofBits .f32 0x45800000#32)

/-- A row less its mean. -/
def centred (x : Fin 4096 → EReal) (k : Fin 4096) : EReal := x k - mean x

/-- One entry of the layer norm of row `x` with gain `g` and offset `b`. -/
def normed (x : Fin 4096 → EReal) (k : Fin 4096) (g b : EReal) : EReal :=
  centred x k * Ideal.rsqrt (mean (fun j => centred x j * centred x j) + Ideal.ofBits .f32 0x3727C5AC#32) * g + b

/-- Row `r`: the residual, scaled, plus the projection. -/
def row (x y : S32768x4096.Idx → EReal) (r : Fin 32768) (k : Fin 4096) : EReal :=
  Ideal.ofBits .f32 0x3F9837F0#32 * x (ix2 r k) + y (ix2 r k)

/-- Every row normed, with the gain and offset of its column. -/
def norms (x y : S32768x4096.Idx → EReal) (g b : S4096.Idx → EReal) : S32768x4096.Idx → EReal := fun i =>
  normed (row x y (i 0)) (i 1) (g (ix1 (i 1))) (b (ix1 (i 1)))

/-- At each step the blocks of the two outputs, the residual and the projection have the step's index, and the gain and offset have one block. -/
theorem idx : ∀ t : Fin grid0.N, win0_4.index t = ![t.val, 0] ∧ win0_5.index t = ![t.val, 0]
    ∧ win0_0.index t = ![t.val, 0] ∧ win0_1.index t = ![t.val, 0]
    ∧ win0_2.index t = ![0, 0] ∧ win0_3.index t = ![0, 0] := by decide +kernel

/-- Row `a` of step `t`'s blocks. -/
def at' (t : Fin cfg0.N) (a : Fin 256) : Fin 32768 := ⟨t.val * 256 + a.val, by have := t.isLt; have : cfg0.N = 128 := rfl; omega⟩

/-- Step `t`'s block of the residual. -/
theorem block0 (c : Dev nD) (t : Fin cfg0.N) (a : Fin 256) (b : Fin 4096) :
    iblk m c 0 t (ix2 a b) = m ((c : Thread nD τ).loc main_arg0) (ix2 (at' t a) b) := by
  unfold iblk at'
  rw [show V m c (Pipeline.arrRef spec0 0) = _ from V_main_arg0 m c]
  blk_point [idx t]

/-- Step `t`'s block of the projection. -/
theorem block1 (c : Dev nD) (t : Fin cfg0.N) (a : Fin 256) (b : Fin 4096) :
    iblk m c 1 t (ix2 a b) = m ((c : Thread nD τ).loc main_arg1) (ix2 (at' t a) b) := by
  unfold iblk at'
  rw [show V m c (Pipeline.arrRef spec0 1) = _ from V_main_arg1 m c]
  blk_point [idx t]

/-- The gain, the same block at each step. -/
theorem block2 (c : Dev nD) (t : Fin cfg0.N) (b : Fin 4096) : iblk m c 2 t (ix2 0 b) = m ((c : Thread nD τ).loc main_arg2) (ix1 b) := by
  unfold iblk
  rw [show V m c (Pipeline.arrRef spec0 2) = V m c main_v0 from rfl]
  entry_read
  blk_simp
  pointwise
  blk_point [idx t]

/-- The offset, the same block at each step. -/
theorem block3 (c : Dev nD) (t : Fin cfg0.N) (b : Fin 4096) : iblk m c 3 t (ix2 0 b) = m ((c : Thread nD τ).loc main_arg3) (ix1 b) := by
  unfold iblk
  rw [show V m c (Pipeline.arrRef spec0 3) = V m c main_v1 from rfl]
  entry_read
  blk_simp
  pointwise
  blk_point [idx t]

/-- Where entry `(a, b)` of step `t`'s block of the first output lies. -/
theorem emb4 (t : Fin cfg0.N) (a : Fin 256) (b : Fin 4096) : ((cfg0.win 4).blk t).view.emb (ix2 a b) = ix2 (at' t a) b := by
  unfold at'
  blk_point [idx t]

/-- The same for the second output. -/
theorem emb5 (t : Fin cfg0.N) (a : Fin 256) (b : Fin 4096) : ((cfg0.win 5).blk t).view.emb (ix2 a b) = ix2 (at' t a) b := by
  unfold at'
  blk_point [idx t]

/-- The step's rows normed with its gain and offset are the norms at the step's rows. -/
theorem normed_at (c : Dev nD) (t : Fin cfg0.N) (a : Fin 256) (b : Fin 4096) :
    normed (fun j => Ideal.ofBits .f32 0x3F9837F0#32 * iblk m c 0 t (ix2 a j) + iblk m c 1 t (ix2 a j)) b (iblk m c 2 t (ix2 0 b))
      (iblk m c 3 t (ix2 0 b)) = norms (m ((c : Thread nD τ).loc main_arg0)) (m ((c : Thread nD τ).loc main_arg1))
    (m ((c : Thread nD τ).loc main_arg2)) (m ((c : Thread nD τ).loc main_arg3)) (ix2 (at' t a) b) := by
  rw [block2, block3]
  simp only [block0, block1]
  rfl

/-- After the last step the first output array holds the normed rows. -/
theorem final (c : Dev nD) : (dats m 0 c).arrAt 4 cfg0.N = norms (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ covers fun t hf y => ?_
  obtain ⟨a, b, rfl⟩ : ∃ (a : Fin 256) (b : Fin 4096), y = ix2 a b := ⟨y 0, y 1, eq_ix2 y⟩
  blk_simp
  rw [after0_4]
  refine Eq.trans ?_ (congrArg _ (emb4 t a b)).symm
  frame_out
  unfold_payloads
  pointwise
  show normed (fun j => Ideal.ofBits .f32 0x3F9837F0#32 * iblk m c 0 t (ix2 a j) + iblk m c 1 t (ix2 a j)) b (iblk m c 2 t (ix2 0 b))
    (iblk m c 3 t (ix2 0 b)) = _
  exact normed_at m c t a b

/-- And the second holds them rounded, which over the extended reals is the same. -/
theorem final' (c : Dev nD) : (dats m 0 c).arrAt 5 cfg0.N = norms (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ covers' fun t hf y => ?_
  obtain ⟨a, b, rfl⟩ : ∃ (a : Fin 256) (b : Fin 4096), y = ix2 a b := ⟨y 0, y 1, eq_ix2 y⟩
  blk_simp
  rw [after0_5]
  refine Eq.trans ?_ (congrArg _ (emb5 t a b)).symm
  frame_out
  unfold_payloads
  pointwise
  show normed (fun j => Ideal.ofBits .f32 0x3F9837F0#32 * iblk m c 0 t (ix2 a j) + iblk m c 1 t (ix2 a j)) b (iblk m c 2 t (ix2 0 b))
    (iblk m c 3 t (ix2 0 b)) = _
  exact normed_at m c t a b

/-- The reference ends at the same arrays, its arguments kept. -/
theorem reference_run (m : (ℓ : Loc Cert.MidNormRefIdeal.nD Cert.MidNormRefIdeal.τ Cert.MidNormRefIdeal.sig) → Buf (Elt Ideal) ℓ) (ρ) :
    θ_run Cert.MidNormRefIdeal.defs (onTc (τ := Cert.MidNormRefIdeal.τ) (Cert.MidNormRefIdeal.main (F := Ideal))) ⟨m, fun _ => 0, ρ⟩ fun r => ∀ c : Dev nD,
      r.2.mem ((c.tc : Thread Cert.MidNormRefIdeal.nD Cert.MidNormRefIdeal.τ).loc Cert.MidNormRefIdeal.main_v28)
        = norms (m ((c : Thread nD τ).loc Cert.MidNormRefIdeal.main_arg0)) (m ((c : Thread nD τ).loc Cert.MidNormRefIdeal.main_arg1)) (m ((c : Thread nD τ).loc Cert.MidNormRefIdeal.main_arg2)) (m ((c : Thread nD τ).loc Cert.MidNormRefIdeal.main_arg3))
      ∧ r.2.mem ((c.tc : Thread Cert.MidNormRefIdeal.nD Cert.MidNormRefIdeal.τ).loc Cert.MidNormRefIdeal.main_v29)
        = norms (m ((c : Thread nD τ).loc Cert.MidNormRefIdeal.main_arg0)) (m ((c : Thread nD τ).loc Cert.MidNormRefIdeal.main_arg1)) (m ((c : Thread nD τ).loc Cert.MidNormRefIdeal.main_arg2)) (m ((c : Thread nD τ).loc Cert.MidNormRefIdeal.main_arg3))
      ∧ r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3) := by
  refine (θ_run Cert.MidNormRefIdeal.defs _ _).mono (fun r h c => ⟨(h c).1.trans ?_, (h c).2.1.trans ?_, (h c).2.2⟩) (Cert.MidNormRefIdeal.Value.run (F := Ideal) m ρ)
  all_goals
    funext i
    obtain ⟨a, b, rfl⟩ : ∃ (a : Fin 32768) (b : Fin 4096), i = ix2 a b := ⟨i 0, i 1, eq_ix2 i⟩
    clean_types
    pointwise
    rfl

end Cert.MidNormIdeal.RefValue
end
-- ==== Proof.InProjValue.lean ====
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem

namespace Cert.InProjIdeal.RefValue

open Cert.InProjIdeal Cert.InProjIdeal.Gen

variable (m : (ℓ : Loc nD τ sig) → Buf (Elt Ideal) ℓ) (ρ : Dev nD → PrngReg)

/-- The projection of every token row by the whole weight matrix: what the result array is shown to hold. -/
abbrev proj (c : Dev nD) : Buf (Elt Ideal) ((c : Thread nD τ).loc main_v0) :=
  truncf .bf16 (Host.dotGeneral (F := Ideal) (φ₁ := .bf16) (φ₂ := .bf16) Cert.InProjRefIdeal.dot_S32768x4096_S4096x28672_S32768x28672_1_0_0_1_n_n none
    (m ((c : Thread nD τ).loc main_arg0)) (m ((c : Thread nD τ).loc main_arg1))) bitsLt_bf16_f32

/-- At each step the left factor's block has the output's rows and all columns, the right factor's all rows and the output's columns. -/
theorem idx : ∀ t : Fin grid0.N, win0_0.index t 0 = win0_2.index t 0 ∧ win0_0.index t 1 = 0 ∧ win0_1.index t 0 = 0
    ∧ win0_1.index t 1 = win0_2.index t 1 := by decide +kernel

/-- The blocks of the output cover the whole output array. -/
theorem covers : (cfg0.win 2).Covers := by decide +kernel

/-- After the last step the output array holds the product of the two arguments. -/
theorem final (c : Dev nD) : (dats m 0 c).arrAt 2 cfg0.N = proj m c := by
  refine (dats m 0 c).arrAt_eq_of_covers 2 _ covers fun t hf y => ?_
  blk_simp
  rw [after0_2]
  frame_out
  unfold_payloads
  unfold proj
  pointwise
  blk_point [iblk, V, idx t]

end Cert.InProjIdeal.RefValue
end
-- ==== Proof.MemKvValue.lean ====
module

public import proofs.«01_k».proof.Defs
public import proofs.«01_k».proof.Proof.Gen.MemKvIdeal.Value
public import proofs.«01_k».proof.Proof.Gen.MemKvRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem

namespace Cert.MemKvIdeal.RefValue

open Cert.MemKvIdeal Cert.MemKvIdeal.Gen

variable (m : (ℓ : Loc nD τ sig) → Buf (Elt Ideal) ℓ) (ρ : Dev nD → PrngReg)

/-- The projection of every token row by the whole weight matrix: what the result array is shown to hold. -/
abbrev proj (c : Dev nD) : Buf (Elt Ideal) ((c : Thread nD τ).loc main_v0) :=
  truncf .bf16 (Host.dotGeneral (F := Ideal) (φ₁ := .bf16) (φ₂ := .bf16) Cert.MemKvRefIdeal.dot_S1280x4096_S4096x4096_S1280x4096_1_0_0_1_n_n none
    (m ((c : Thread nD τ).loc main_arg0)) (m ((c : Thread nD τ).loc main_arg1))) bitsLt_bf16_f32

/-- At each step the left factor's block has the output's rows and all columns, the right factor's all rows and the output's columns. -/
theorem idx : ∀ t : Fin grid0.N, win0_0.index t 0 = win0_2.index t 0 ∧ win0_0.index t 1 = 0 ∧ win0_1.index t 0 = 0
    ∧ win0_1.index t 1 = win0_2.index t 1 := by decide +kernel

/-- The blocks of the output cover the whole output array. -/
theorem covers : (cfg0.win 2).Covers := by decide +kernel

/-- After the last step the output array holds the product of the two arguments. -/
theorem final (c : Dev nD) : (dats m 0 c).arrAt 2 cfg0.N = proj m c := by
  refine (dats m 0 c).arrAt_eq_of_covers 2 _ covers fun t hf y => ?_
  blk_simp
  rw [after0_2]
  frame_out
  unfold_payloads
  unfold proj
  pointwise
  blk_point [iblk, V, idx t]

end Cert.MemKvIdeal.RefValue
end
-- ==== Proof.OutProjValue.lean ====
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem

namespace Cert.OutProjIdeal.RefValue

open Cert.OutProjIdeal Cert.OutProjIdeal.Gen

variable (m : (ℓ : Loc nD τ sig) → Buf (Elt Ideal) ℓ) (ρ : Dev nD → PrngReg)

/-- The projection of every token row by the whole weight matrix: what the result array is shown to hold. -/
abbrev proj (c : Dev nD) : Buf (Elt Ideal) ((c : Thread nD τ).loc main_v0) :=
  (Host.dotGeneral (F := Ideal) (φ₁ := .bf16) (φ₂ := .bf16) Cert.OutProjRefIdeal.dot_S32768x4096_S4096x4096_S32768x4096_1_0_0_1_n_n none
    (m ((c : Thread nD τ).loc main_arg0)) (m ((c : Thread nD τ).loc main_arg1)))

/-- At each step the left factor's block has the output's rows and all columns, the right factor's all rows and the output's columns. -/
theorem idx : ∀ t : Fin grid0.N, win0_0.index t 0 = win0_2.index t 0 ∧ win0_0.index t 1 = 0 ∧ win0_1.index t 0 = 0
    ∧ win0_1.index t 1 = win0_2.index t 1 := by decide +kernel

/-- The blocks of the output cover the whole output array. -/
theorem covers : (cfg0.win 2).Covers := by decide +kernel

/-- After the last step the output array holds the product of the two arguments. -/
theorem final (c : Dev nD) : (dats m 0 c).arrAt 2 cfg0.N = proj m c := by
  refine (dats m 0 c).arrAt_eq_of_covers 2 _ covers fun t hf y => ?_
  blk_simp
  rw [after0_2]
  frame_out
  unfold_payloads
  unfold proj
  pointwise
  blk_point [iblk, V, idx t]

end Cert.OutProjIdeal.RefValue
end
-- ==== Proof.MergeValue.lean ====
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pipeline.Covers
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.MergeIdeal.RefValue

open Cert.MergeIdeal Cert.MergeIdeal.Gen

variable (m : (ℓ : Loc nD τ sig) → Buf (Elt Ideal) ℓ)

/-- At each step which blocks of the branches, the gate logits and the weights go with the output's block. -/
theorem idx : ∀ t : Fin grid0.N, win0_0.index t = ![win0_7.index t 0, 0] ∧ win0_1.index t = ![win0_7.index t 0, 0]
    ∧ win0_2.index t = ![win0_7.index t 0, 0] ∧ win0_3.index t = ![win0_7.index t 0, 32 + win0_7.index t 1]
    ∧ win0_4.index t = ![win0_7.index t 0, 40 + win0_7.index t 1] ∧ win0_5.index t = ![win0_7.index t 0, 48 + win0_7.index t 1]
    ∧ win0_6.index t = ![0, 0, win0_7.index t 1] := by decide +kernel

/-- The blocks of the output cover the whole output array. -/
theorem covers : (cfg0.win 7).Covers := by decide +kernel

/-- The merged branches: each branch's product with its weights, times the sigmoid of the branch's gate column, summed. -/
abbrev merged (y₀ y₁ y₂ : S32768x2048.Idx → EReal) (z : S32768x28672.Idx → EReal) (w : S3x2048x4096.Idx → EReal) :
    S32768x4096.Idx → EReal := fun i =>
  Ideal.div 1 (1 + Ideal.exp (-z (ix2 (i 0) ⟨16384 + (i 1).val, by have := (i 1).isLt; simp at this; omega⟩))) * ∑ k : Fin 2048, y₀ (ix2 (i 0) k) * w (ix3 0 k (i 1))
  + Ideal.div 1 (1 + Ideal.exp (-z (ix2 (i 0) ⟨20480 + (i 1).val, by have := (i 1).isLt; simp at this; omega⟩))) * ∑ k : Fin 2048, y₁ (ix2 (i 0) k) * w (ix3 1 k (i 1))
  + Ideal.div 1 (1 + Ideal.exp (-z (ix2 (i 0) ⟨24576 + (i 1).val, by have := (i 1).isLt; simp at this; omega⟩))) * ∑ k : Fin 2048, y₂ (ix2 (i 0) k) * w (ix3 2 k (i 1))

/-- The kernel's result array ends at the merged branches of its arguments. -/
theorem final (c : Dev nD) : (dats m 0 c).arrAt 7 cfg0.N = merged (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ covers fun t hf y => ?_
  blk_simp
  rw [after0_7]
  frame_out
  unfold_payloads
  unfold merged
  pointwise
  simp only [zero_sub]
  blk_point [iblk, V, idx t]

/-- The reference's result array is the merged branches of its arguments. -/
theorem reference_run (m : (ℓ : Loc Cert.MergeRefIdeal.nD Cert.MergeRefIdeal.τ Cert.MergeRefIdeal.sig) → Buf (Elt Ideal) ℓ) (ρ) :
    θ_run Cert.MergeRefIdeal.defs (onTc (τ := Cert.MergeRefIdeal.τ) (Cert.MergeRefIdeal.main (F := Ideal))) ⟨m, fun _ => 0, ρ⟩ fun r => ∀ c : Dev nD,
      r.2.mem ((c.tc : Thread Cert.MergeRefIdeal.nD Cert.MergeRefIdeal.τ).loc Cert.MergeRefIdeal.main_v43)
        = merged (m ((c : Thread nD τ).loc Cert.MergeRefIdeal.main_arg0)) (m ((c : Thread nD τ).loc Cert.MergeRefIdeal.main_arg1))
    (m ((c : Thread nD τ).loc Cert.MergeRefIdeal.main_arg2)) (m ((c : Thread nD τ).loc Cert.MergeRefIdeal.main_arg3)) (m ((c : Thread nD τ).loc Cert.MergeRefIdeal.main_arg4))
      ∧ r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4) := by
  refine (θ_run Cert.MergeRefIdeal.defs _ _).mono (fun r h c => ⟨(h c).1.trans ?_, (h c).2⟩) (Cert.MergeRefIdeal.Value.run (F := Ideal) m ρ)
  funext i
  unfold merged
  clean_types
  pointwise
  clear h
  blk_point

end Cert.MergeIdeal.RefValue
end
-- ==== Proof.AttnValue.lean ====
module

public import proofs.«01_k».proof.Defs
public import proofs.«01_k».proof.Proof.Gen.AttnIdeal.Value
public import proofs.«01_k».proof.Proof.Gen.AttnRefIdeal.Run
public import Idealize.ShloMosaic.Lib.Pipeline.ValueKit
public import Idealize.ShloMosaic.Lib.Pipeline.Covers
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AttnIdeal.RefValue

open Cert.AttnIdeal Cert.AttnIdeal.Gen

variable (m : (ℓ : Loc nD τ sig) → Buf (Elt Ideal) ℓ)

/-- At each step the queries' block is the output's, twenty-eight column blocks further right. -/
theorem idx : ∀ t : Fin grid0.N, win0_0.index t = ![win0_3.index t 0, 28 + win0_3.index t 1]
    ∧ win0_1.index t = ![if win0_3.index t 0 < 32 then win0_3.index t 0 / 8 else 4, win0_3.index t 1]
    ∧ win0_2.index t = ![if win0_3.index t 0 < 32 then win0_3.index t 0 / 8 else 4, 4 + win0_3.index t 1] := by decide +kernel

/-- The blocks of the output cover the whole output array. -/
theorem covers : (cfg0.win 3).Covers := by decide +kernel

/-- The scaled score of one query row against key row `x`. -/
def score (q : Fin 512 → EReal) (k : Fin 256 → Fin 512 → EReal) (x : Fin 256) : EReal :=
  (∑ j, q j * k x j) * Ideal.ofBits .f32 0x3D3504F3#32

/-- The largest score of one query row. -/
def top (q : Fin 512 → EReal) (k : Fin 256 → Fin 512 → EReal) : EReal :=
  Finset.fold max (Ideal.ofBits .f32 0xFF800000#32) (score q k) Finset.univ

/-- The softmax weight of key row `x`. -/
def weight (q : Fin 512 → EReal) (k : Fin 256 → Fin 512 → EReal) (x : Fin 256) : EReal :=
  Ideal.div (Ideal.exp (score q k x - top q k)) (∑ x', Ideal.exp (score q k x' - top q k))

/-- One element of the attention's result: the softmax of the scores, times one column of the values. -/
def attend (q : Fin 512 → EReal) (k : Fin 256 → Fin 512 → EReal) (v : Fin 256 → EReal) : EReal :=
  ∑ x, weight q k x * v x

/-- The memory that token row `r` reads: the four prompt sequences have one each, the rows after them the fifth. -/
def group (r : Nat) : Nat := if r < 16384 then r / 4096 else 4

/-- Every row of the queries belongs to one of the five groups of memory rows. -/
theorem group_lt (r : Nat) : group r < 5 := by unfold group; split <;> omega

/-- The layer's memory attention: token row `i 0`, head `i 1 / 512`. -/
def attention (z : S32768x28672.Idx → EReal) (kv : S1280x4096.Idx → EReal) : S32768x2048.Idx → EReal := fun i =>
  have h : (i 1).val < 2048 := (i 1).isLt
  attend (fun j => z (ix2 (i 0) ⟨14336 + (i 1).val / 512 * 512 + j.val, by omega⟩))
    (fun x j => kv (ix2 ⟨group (i 0).val * 256 + x.val, by have := group_lt (i 0).val; omega⟩ ⟨(i 1).val / 512 * 512 + j.val, by omega⟩))
    (fun x => kv (ix2 ⟨group (i 0).val * 256 + x.val, by have := group_lt (i 0).val; omega⟩ ⟨2048 + (i 1).val, by omega⟩))

/-- After the last step the output array holds the memory attention of the arguments. -/
theorem final (c : Dev nD) : (dats m 0 c).arrAt 3 cfg0.N = attention (m ((c : Thread nD τ).loc main_arg0)) (m ((c : Thread nD τ).loc main_arg1)) := by
  refine (dats m 0 c).arrAt_eq_of_covers 3 _ covers fun t hf y => ?_
  blk_simp
  rw [after0_3]
  frame_out
  unfold_payloads
  pointwise
  show attend (fun j => iblk m c 0 t (ix2 (y 0) j)) (fun x j => iblk m c 1 t (ix2 x j)) (fun x => iblk m c 2 t (ix2 x (y 1))) = _
  unfold attention
  congr 1
  · funext j
    blk_point [iblk, V, idx t]
  · funext x j
    blk_point [iblk, V, idx t, group]
    all_goals (split_ifs <;> omega)
  · funext x
    blk_point [iblk, V, idx t, group]
    all_goals (split_ifs <;> omega)

end Cert.AttnIdeal.RefValue
end
-- ==== Proof.AttnRef.lean ====
module

public import proofs.«01_k».proof.Defs
public import proofs.«01_k».proof.Proof.Gen.AttnIdeal.Value
public import proofs.«01_k».proof.Proof.Gen.AttnRefIdeal.Run
public import Idealize.ShloMosaic.Lib.Pipeline.ValueKit
public import Idealize.ShloMosaic.Lib.Pipeline.Covers
public import proofs.«01_k».proof.Proof.Gen.AttnRefIdeal.Read
public import proofs.«01_k».proof.Proof.AttnValue
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.AttnIdeal.RefValue

open Cert.AttnRefIdeal Cert.AttnRefIdeal.Gen Cert.AttnRefIdeal.Read

variable (z : S32768x28672.Idx → EReal) (kv : S1280x4096.Idx → EReal)

/-- A maximum that already starts at `b` is not changed by another `b`. -/
theorem max_fold {n : Nat} (b : EReal) (f : Fin n → EReal) :
    max b (Finset.fold max b f Finset.univ) = Finset.fold max b f Finset.univ := by
  rw [max_eq_right]
  exact (Finset.le_fold_max b).mpr (Or.inl le_rfl)

/-- Equal queries, keys and values give an equal result. -/
theorem attend_congr {q q' : Fin 512 → EReal} {k k' : Fin 256 → Fin 512 → EReal} {v v' : Fin 256 → EReal}
    (hq : ∀ j, q j = q' j) (hk : ∀ x j, k x j = k' x j) (hv : ∀ x, v x = v' x) : attend q k v = attend q' k' v' := by
  obtain rfl := funext hq
  obtain rfl := funext fun x => funext (hk x)
  obtain rfl := funext hv
  rfl

/-- The largest along the last axis of a rank-four array, by any starting value. -/
theorem reduce_max {n₀ n₁ n₂ n₃ : Nat} {u : Shape} (v : FVec Ideal ⟨4, ![n₀, n₁, n₂, n₃]⟩ .f32) (c : FVec Ideal u .f32)
    (hr : (⟨4, ![n₀, n₁, n₂, n₃]⟩ : Shape).ReducesTo [3] ⟨3, ![n₀, n₁, n₂]⟩) (hu : 0 < u.numel) (b : Fin n₀) (h : Fin n₁) (r : Fin n₂) :
    Host.reduce FloatOps.maximumf v c hr hu (ix3 b h r)
      = Finset.fold max (c (Shape.Idx.first hu)) (fun k : Fin n₃ => v (ix4 b h r k)) Finset.univ := by
  rw [Host.reduce_eq_fold, Shape.ReducesTo.fold_fiber_r4_a3]
  rfl

/-! ### The prompt rows -/

/-- A scaled score of the prompt rows. -/
theorem score_prompt (b : Fin 4) (h : Fin 4) (r : Fin 4096) (x : Fin 256) :
    val_main_v11 (F := Ideal) z kv (ix4 b h r x) = score (fun j => z (ix2 ⟨b.val * 4096 + r.val, by omega⟩ ⟨14336 + (h.val * 512 + j.val), by omega⟩)) (fun x j => kv (ix2 ⟨b.val * 256 + x.val, by omega⟩ ⟨h.val * 512 + j.val, by omega⟩)) x := by
  unfold val_main_v11 val_main_v9 val_main_v10 val_main_cst val_main_v3 val_main_v6 val_main_v5 val_main_v4 val_main_v2 val_main_v1 val_main_v0 score
  pointwise

/-- The largest of a prompt row's scores. -/
theorem top_prompt (b : Fin 4) (h : Fin 4) (r : Fin 4096) :
    val_main_v14 (F := Ideal) z kv (ix3 b h r) = top (fun j => z (ix2 ⟨b.val * 4096 + r.val, by omega⟩ ⟨14336 + (h.val * 512 + j.val), by omega⟩)) (fun x j => kv (ix2 ⟨b.val * 256 + x.val, by omega⟩ ⟨h.val * 512 + j.val, by omega⟩)) := by
  rw [val_main_v14_apply, val_main_v13_apply, val_main_cst_1_apply]
  unfold val_main_v12
  rw [reduce_max, val_main_cst_0_apply]
  simp only [score_prompt]
  exact max_fold _ _

/-- A softmax weight of the prompt rows. -/
theorem weight_prompt (b : Fin 4) (h : Fin 4) (r : Fin 4096) (x : Fin 256) :
    val_main_v23 (F := Ideal) z kv (ix4 b h r x) = weight (fun j => z (ix2 ⟨b.val * 4096 + r.val, by omega⟩ ⟨14336 + (h.val * 512 + j.val), by omega⟩)) (fun x j => kv (ix2 ⟨b.val * 256 + x.val, by omega⟩ ⟨h.val * 512 + j.val, by omega⟩)) x := by
  unfold val_main_v23 val_main_v22 val_main_v21 val_main_v20 val_main_v19 val_main_v18 val_main_v17 val_main_v16 val_main_v15 val_main_cst_2 weight
  pointwise
  simp only [score_prompt, top_prompt]

/-- A result of the prompt rows. -/
theorem out_prompt (b : Fin 4) (h : Fin 4) (d : Fin 512) (r : Fin 4096) :
    val_main_v24 (F := Ideal) z kv (ix4 b h d r) = attend (fun j => z (ix2 ⟨b.val * 4096 + r.val, by omega⟩ ⟨14336 + (h.val * 512 + j.val), by omega⟩)) (fun x j => kv (ix2 ⟨b.val * 256 + x.val, by omega⟩ ⟨h.val * 512 + j.val, by omega⟩)) (fun x => kv (ix2 ⟨b.val * 256 + x.val, by omega⟩ ⟨2048 + (h.val * 512 + d.val), by omega⟩)) := by
  unfold val_main_v24 attend
  pointwise
  simp only [weight_prompt]
  refine Finset.sum_congr rfl fun x _ => ?_
  rw [mul_comm]
  congr 1
  unfold val_main_v8 val_main_v7 val_main_v4 val_main_v2
  pointwise
  blk_point

/-! ### The sample rows -/

/-- A scaled score of the sample rows. -/
theorem score_sample (b : Fin 1) (h : Fin 4) (r : Fin 16384) (x : Fin 256) :
    val_main_v37 (F := Ideal) z kv (ix4 b h r x) = score (fun j => z (ix2 ⟨16384 + r.val, by omega⟩ ⟨14336 + (h.val * 512 + j.val), by omega⟩)) (fun x j => kv (ix2 ⟨1024 + x.val, by omega⟩ ⟨h.val * 512 + j.val, by omega⟩)) x := by
  unfold val_main_v37 val_main_v35 val_main_v36 val_main_cst_3 val_main_v29 val_main_v32 val_main_v31 val_main_v30 val_main_v28 val_main_v27 val_main_v0 score
  pointwise

/-- The largest of a sample row's scores. -/
theorem top_sample (b : Fin 1) (h : Fin 4) (r : Fin 16384) :
    val_main_v40 (F := Ideal) z kv (ix3 b h r) = top (fun j => z (ix2 ⟨16384 + r.val, by omega⟩ ⟨14336 + (h.val * 512 + j.val), by omega⟩)) (fun x j => kv (ix2 ⟨1024 + x.val, by omega⟩ ⟨h.val * 512 + j.val, by omega⟩)) := by
  rw [val_main_v40_apply, val_main_v39_apply, val_main_cst_5_apply]
  unfold val_main_v38
  rw [reduce_max, val_main_cst_4_apply]
  simp only [score_sample]
  exact max_fold _ _

/-- A softmax weight of the sample rows. -/
theorem weight_sample (b : Fin 1) (h : Fin 4) (r : Fin 16384) (x : Fin 256) :
    val_main_v49 (F := Ideal) z kv (ix4 b h r x) = weight (fun j => z (ix2 ⟨16384 + r.val, by omega⟩ ⟨14336 + (h.val * 512 + j.val), by omega⟩)) (fun x j => kv (ix2 ⟨1024 + x.val, by omega⟩ ⟨h.val * 512 + j.val, by omega⟩)) x := by
  unfold val_main_v49 val_main_v48 val_main_v47 val_main_v46 val_main_v45 val_main_v44 val_main_v43 val_main_v42 val_main_v41 val_main_cst_6 weight
  pointwise
  simp only [score_sample, top_sample]

/-- A result of the sample rows. -/
theorem out_sample (b : Fin 1) (h : Fin 4) (d : Fin 512) (r : Fin 16384) :
    val_main_v50 (F := Ideal) z kv (ix4 b h d r) = attend (fun j => z (ix2 ⟨16384 + r.val, by omega⟩ ⟨14336 + (h.val * 512 + j.val), by omega⟩)) (fun x j => kv (ix2 ⟨1024 + x.val, by omega⟩ ⟨h.val * 512 + j.val, by omega⟩)) (fun x => kv (ix2 ⟨1024 + x.val, by omega⟩ ⟨2048 + (h.val * 512 + d.val), by omega⟩)) := by
  unfold val_main_v50 attend
  pointwise
  simp only [weight_sample]
  refine Finset.sum_congr rfl fun x _ => ?_
  rw [mul_comm]
  congr 1
  unfold val_main_v34 val_main_v33 val_main_v30 val_main_v28
  pointwise
  blk_point

/-- The reference's result array is the memory attention of its arguments. -/
theorem reference_eq : val_main_v54 (F := Ideal) z kv = attention z kv := by
  funext i
  have h0 : (i 0).val < 32768 := (i 0).isLt
  have h1 : (i 1).val < 2048 := (i 1).isLt
  unfold val_main_v54 val_main_v53 val_main_v26 val_main_v25 val_main_v52 val_main_v51
  pointwise
  simp only [out_prompt, out_sample]
  unfold attention
  split
  · rename_i h
    refine attend_congr (fun j => ?_) (fun x j => ?_) (fun x => ?_)
    · blk_point
    · blk_point [group, if_pos h]
    · blk_point [group, if_pos h]
  · rename_i h
    refine attend_congr (fun j => ?_) (fun x j => ?_) (fun x => ?_)
    · blk_point
    · blk_point [group, if_neg h]
    · blk_point [group, if_neg h]

end Cert.AttnIdeal.RefValue
end
-- ==== Proof.UpRun.lean ====
/- The idealized first expert product at any tables its precondition admits: what one grid point leaves in the result's
   staging buffer, the body's obligation at a generic point, and the launch. -/
module

public import proofs.«01_k».proof.Proof.Gen.MoeUpIdeal.Flash.Runs
public import proofs.«01_k».proof.Proof.Gen.MoeUpIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Tactic

@[expose] public section

set_option maxRecDepth 16384

noncomputable section

namespace Cert.MoeUpIdeal.Run

open Cert.MoeUpIdeal Cert.MoeUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

/-- The resource algebra of the launch: the rounds library's, embedded whole. -/
abbrev EP : Emb (UR sig nD τ) 𝕄 := emb₁

variable (a : (pcfg0 (F := Ideal)).Adm)
variable (m : (ℓ : Loc nD τ sig) → Buf (Elt Ideal) ℓ) (ρ : Dev nD → PrngReg)

/-- The pipeline at admissible tables. -/
abbrev cfgA : Cfg sig Λ₀ := cfg0 (F := Ideal) a
/-- The launch's pipeline at the tables `a`. -/
abbrev pcs : Fin 1 → Cfg sig Λ₀ := Pipeline.pin (pcfgs (F := Ideal)) fun _ => a
/-- Point `t`'s coordinates, and each window's staging memref there. -/
abbrev crd (t : Fin (cfgA a).N) : (cfgA a).grid.Coords := (cfgA a).grid.coords t
/-- The buffer that holds the first operand's block at step `t`. -/
abbrev ms0 (t : Fin (cfgA a).N) : Memref sig .tc .vmem S512x4096 .bf16 := spec0_0.stage ((cfgA a).slots t (0 : Fin 4))
/-- The first operand's buffer at step `t` is a whole buffer. -/
abbrev hs0 (t : Fin (cfgA a).N) : (ms0 a t).IsWhole := hstage0_0 (((cfgA a).slots t (0 : Fin 4)).cast nbuf0_0)
/-- The buffer that holds the second operand's block at step `t`. -/
abbrev ms1 (t : Fin (cfgA a).N) : Memref sig .tc .vmem S1x4096x512 .f32 := spec0_1.stage ((cfgA a).slots t (1 : Fin 4))
/-- The second operand's buffer at step `t` is a whole buffer. -/
abbrev hs1 (t : Fin (cfgA a).N) : (ms1 a t).IsWhole := hstage0_1 (((cfgA a).slots t (1 : Fin 4)).cast nbuf0_1)
/-- The buffer that holds the third operand's block at step `t`. -/
abbrev ms2 (t : Fin (cfgA a).N) : Memref sig .tc .vmem S1x4096x512 .f32 := spec0_2.stage ((cfgA a).slots t (2 : Fin 4))
/-- The third operand's buffer at step `t` is a whole buffer. -/
abbrev hs2 (t : Fin (cfgA a).N) : (ms2 a t).IsWhole := hstage0_2 (((cfgA a).slots t (2 : Fin 4)).cast nbuf0_2)
/-- The buffer that holds the fourth operand's block at step `t`. -/
abbrev ms3 (t : Fin (cfgA a).N) : Memref sig .tc .vmem S512x512 .bf16 := spec0_3.stage ((cfgA a).slots t (3 : Fin 4))
/-- The fourth operand's buffer at step `t` is a whole buffer. -/
abbrev hs3 (t : Fin (cfgA a).N) : (ms3 a t).IsWhole := hstage0_3 (((cfgA a).slots t (3 : Fin 4)).cast nbuf0_3)
/-- The two tables. -/
abbrev T0 : S640.Idx → Elt Ideal .i32 := a.1 0
/-- The second table: the number of row blocks in use. -/
abbrev T1 : S1.Idx → Elt Ideal .i32 := a.1 1
/-- The number of row blocks in use, as the body reads it. -/
abbrev used : BitVec 32 := View.readAt (Elt Ideal) (tbM0_1).view (Rect.unit (s := S1) ![0] S1.size inb_S1_S1_0).toLoadRect (T1 a) (Shape.Idx.first (numel1_S1.symm ▸ Nat.one_pos))

/-- The two guards of the body are opposite, whatever word they compare with. -/
theorem guards (i : grid0.Coords) (w : BitVec 32) : k0_cond2 i w = 1#1 ↔ ¬k0_cond1 i w = 1#1 := by
  unfold k0_cond1 k0_cond2 Scalar.cmpi Scalar.extui IntOp.cmpi
  simp only [BitVec.sle_eq_not_slt]
  cases h : (BitVec.ofNat 32 (i 1).val).slt w <;> simp

/-- So every point stores the result's block. -/
theorem live (i : grid0.Coords) : (cfgA a).idle (3 : Fin 4) i = false := by
  show (!(k0_cond1 i (a.1.atD 1 ![0]) == 1#1) && !(k0_cond2 i (a.1.atD 1 ![0]) == 1#1)) = false
  have := guards i (a.1.atD 1 ![0])
  by_cases h : k0_cond1 i (a.1.atD 1 ![0]) = 1#1
  · simp [h]
  · simp [this.2 h]

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) (m (((cfgA a).win w).arr.view.loc (c : Thread nD τ)))

/-- The point's row block is in use. -/
abbrev InUse (t : Fin (cfgA a).N) : Prop := k0_cond1 (crd a t) (used a) = 1#1

/-- What point `t` leaves in the result's staging buffer: the product where its row block is in use, zeros elsewhere. -/
def out (c : Dev nD) (t : Fin (cfgA a).N) : S512x512.Idx → Elt Ideal .bf16 :=
  if q : InUse a t then
    out0_A_3 c (crd a t) (ms0 a t) (hs0 a t) (ms1 a t) (hs1 a t) (ms2 a t) (hs2 a t) (ms3 a t) (hs3 a t) (T0 a) (T1 a)
      (iblk a m c (0 : Fin 4) t) (iblk a m c (1 : Fin 4) t) (iblk a m c (2 : Fin 4) t) q (fun h => (guards _ _).1 h q)
  else
    out0_B_3 c (crd a t) (ms0 a t) (hs0 a t) (ms1 a t) (hs1 a t) (ms2 a t) (hs2 a t) (ms3 a t) (hs3 a t) (T0 a) (T1 a)
      (iblk a m c (0 : Fin 4) t) (iblk a m c (1 : Fin 4) t) (iblk a m c (2 : Fin 4) t) q ((guards _ _).2 q)

/-- The invariant between points: the body's halves of the two tables. -/
def tables (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt Ideal) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => out a m c t
  Φ _ := tables a c
  q _ := fullShare
  owed _ := 0

/-- An input window's staging buffer holds the window's block when the body runs. -/
theorem before0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun _ => by unfold Dat.blockOf; rfl) t d).trans
    (by unfold Dat.fetched Dat.blockOf iblk; rfl)
/-- Before step `t` the second operand's block is the one the tables name for that step. -/
theorem before1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun _ => by unfold Dat.blockOf; rfl) t d).trans
    (by unfold Dat.fetched Dat.blockOf iblk; rfl)
/-- Before step `t` the third operand's block is the one the tables name for that step. -/
theorem before2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun _ => by unfold Dat.blockOf; rfl) t d).trans
    (by unfold Dat.fetched Dat.blockOf iblk; rfl)

set_option maxHeartbeats 4000000 in
/-- The body at point `t`, by whether the point's row block is in use. -/
theorem body_at (c : Dev nD) (t : Fin (cfgA a).N) :
    iprop(tables a c ∗ (dats a m 0 c).owesAt () t.castSucc
        ∗ owns (c : Thread nD τ) (ms0 a t) fullShare (iblk a m c (0 : Fin 4) t)
        ∗ owns (c : Thread nD τ) (ms1 a t) fullShare (iblk a m c (1 : Fin 4) t)
        ∗ owns (c : Thread nD τ) (ms2 a t) fullShare (iblk a m c (2 : Fin 4) t)
        ∗ (∃ d, owns (c : Thread nD τ) (ms3 a t) fullShare d))
      ⊢ wp frame (wpE (defs₀ (F := Ideal)) Variants.none c none) Set.univ
        (cc0_moe_up (crd a t) (Memref.whole main_arg3) (Memref.isWhole_whole _) (Memref.whole main_arg4) (Memref.isWhole_whole _) (ms0 a t) (hs0 a t) (ms1 a t) (hs1 a t) (ms2 a t) (hs2 a t) (ms3 a t) (hs3 a t)) fun _ =>
          iprop(tables a c ∗ (dats a m 0 c).owesAt () t.castSucc
            ∗ owns (c : Thread nD τ) (ms0 a t) fullShare (iblk a m c (0 : Fin 4) t)
            ∗ owns (c : Thread nD τ) (ms1 a t) fullShare (iblk a m c (1 : Fin 4) t)
            ∗ owns (c : Thread nD τ) (ms2 a t) fullShare (iblk a m c (2 : Fin 4) t)
            ∗ owns (c : Thread nD τ) (ms3 a t) fullShare (out a m c t)) := by
  unfold tables
  by_cases q : InUse a t
  · rw [show out a m c t = _ from dif_pos q]
    iintro ⟨⟨HT0, HT1⟩, Ho, H0, H1, H2, H3⟩
    iapply ((kernelRun0_A c (crd a t) (ms0 a t) (hs0 a t) (ms1 a t) (hs1 a t) (ms2 a t) (hs2 a t) (ms3 a t) (hs3 a t) (T0 a) (T1 a)
      (iblk a m c (0 : Fin 4) t) (iblk a m c (1 : Fin 4) t) (iblk a m c (2 : Fin 4) t) q (fun h => (guards _ _).1 h q)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexact H3
    iintro ⟨H0, H1, H2, HT0, HT1, ⟨%e3, H3⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    unfold owns; iexists _; isplitr; swap
    · iexact H3
    · ipureintro; exact View.read_writes_of_cover _ _ _ _ _ (cover0_A_3 c _ _ _ _ _ _ _ _ _ _ _ _ _ _ _ _)
  · rw [show out a m c t = _ from dif_neg q]
    iintro ⟨⟨HT0, HT1⟩, Ho, H0, H1, H2, H3⟩
    iapply ((kernelRun0_B c (crd a t) (ms0 a t) (hs0 a t) (ms1 a t) (hs1 a t) (ms2 a t) (hs2 a t) (ms3 a t) (hs3 a t) (T0 a) (T1 a)
      (iblk a m c (0 : Fin 4) t) (iblk a m c (1 : Fin 4) t) (iblk a m c (2 : Fin 4) t) q ((guards _ _).2 q)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexact H3
    iintro ⟨H0, H1, H2, HT0, HT1, ⟨%e3, H3⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    unfold owns; iexists _; isplitr; swap
    · iexact H3
    · ipureintro; exact View.read_writes_of_cover _ _ _ _ _ (cover0_B_3 c _ _ _ _ _ _ _ _ _ _ _ _ _ _ _ _)

/-- The body's obligation, at every point. -/
theorem body_obligation (c : Dev nD) : BodyObligation (dats a m 0 c) (defs₀ (F := Ideal)) Variants.none () Set.univ := fun t => by
  rw [bigSep_W0, bigSep_W0]
  rewrite [live a ((cfgA a).grid.coords t), show (dats a m 0 c).Φ t.castSucc = tables a c from rfl]
  rewrite [show (dats a m 0 c).Φ t.succ = tables a c from rfl, show (dats a m 0 c).owesAt () t.succ = (dats a m 0 c).owesAt () t.castSucc from rfl]
  simp only [before0, before1, before2]
  refine BIBase.Entails.trans ?_ (body_at a m c t)
  iintro ⟨HT, Ho, ⟨%d0, H0⟩, ⟨%d1, H1⟩, ⟨%d2, H2⟩, ⟨%d3, H3⟩⟩
  isplitl [HT]; · iexact HT
  isplitl [Ho]; · iexact Ho
  isplitl [H0]; · iexact H0
  isplitl [H1]; · iexact H1
  isplitl [H2]; · iexact H2
  iexists _; iexact H3

/-- The launch's share of the rounds library. -/
def u₀ : UR sig nD τ :=
  initOf (Pipeline.cells (pcs a) ((launch0 (F := Ideal)).cellOf_inj fun _ => a))
    (Pipeline.launchToks (pcs a) ((launch0 (F := Ideal)).cellOf_inj fun _ => a))

/-- Every window holds its array whole. -/
theorem share_eq (c : Dev nD) (w : Fin (cfgA a).W) : (dats a m 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem enter (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = tables a c from rfl]
  unfold tables
  iintro ⟨-, ⟨HT0, HT1⟩, -⟩
  isplitl [HT0]
  · iexact HT0
  iexact HT1

/-- The invariant at the last point is let go. -/
theorem leave (c : Dev nD) : (dats a m 0 c).Φ (Fin.last (cfgA a).N) ⊢ iprop(BI.emp ∗ Pipeline.scopedRest spec0 c) := by
  rw [scopedRest0_eq]
  iintro -
  isplitr <;> iempintro

/-- What a run ends with: every array at what the pipeline computes, every table as it was. -/
def Final : PUnit × MemSt nD τ sig (Elt Ideal) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From any memory whose tables are `a`: every weakly fair execution terminates, with every array at what the
    pipeline computes and every semaphore counter at zero. -/
theorem run_main (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => Final a m r ∧ r.2.sem = fun _ => 0) :=
  Pipeline.θ_run_region_noSem_pf_quiescent pcfgs (fun _ => a) (dats a m) () ((launch0 (F := Ideal)).cellOf_inj fun _ => a) (0 : Fin 1)
    (launch0 (F := Ideal)).win.to₀ (launch0 (F := Ideal)).pre EP defs₀ Variants.none m ρ main
    (hbody := fun c => (body_obligation a m c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := Ideal)).win.arr_inj c (launch0 (F := Ideal)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.MoeUpIdeal.Run
end
-- ==== Proof.Tables.lean ====
/- The experts' tables: what the preconditions say of them word by word, and the words that the index maps and the guards
   compute from them, as numbers. -/
module

public import proofs.«01_k».proof.Proof.Gen.Pre_up_tables
public import proofs.«01_k».proof.Proof.Gen.Pre_down_tables
public import Idealize.ShloMosaic.Lib.ReduceAll
public import Idealize.ShloMosaic.Lib.Pointwise

@[expose] public section

noncomputable section

namespace Cert.Experts

open Idealize.ShloMosaic

/-- The array without axes has one index. -/
instance : Subsingleton Cert.Pre_up_tables.S_.Idx := ⟨fun _ _ => funext fun a => a.elim0⟩

/-- A shape of one element has one index. -/
theorem one_idx (x y : (⟨1, ![1]⟩ : Shape).Idx) : x = y := by
  funext a
  obtain rfl : a = 0 := Subsingleton.elim (α := Fin 1) _ _
  exact Subsingleton.elim (α := Fin 1) _ _

/-- The first product's precondition, read word by word: every expert is one of the 128, and between 1 and 640 row blocks are in use. -/
theorem words_of_pre {F : FTy → Type} [FloatOps F] (x : FVec F Cert.Pre_up_tables.S327680x4096 .bf16) (wg wu : FVec F Cert.Pre_up_tables.S128x4096x1024 .f32)
    (be : IVec Cert.Pre_up_tables.S640 32) (nu : IVec Cert.Pre_up_tables.S1 32)
    (h : Cert.Pre_up_tables.fn x wg wu be nu = fun _ => 1#1) :
    (∀ i, (be (ix1 (n0 := 640) i)).toNat < 128) ∧ 1 ≤ (nu (ix1 (n0 := 1) 0)).toNat ∧ (nu (ix1 (n0 := 1) 0)).toNat ≤ 640 := by
  have andi_one (a b : BitVec 1) : IntOp.andi a b = 1#1 ↔ a = 1#1 ∧ b = 1#1 := by revert a b; decide
  have one (p : Bool) : BitVec.ofBool p = 1#1 ↔ p = true := by cases p <;> decide
  have hp := congrFun h fun a => a.elim0
  simp only [Cert.Pre_up_tables.fn, constantI, cmpi, andi, andi_one] at hp
  obtain ⟨⟨hbe, h1⟩, h2⟩ := hp
  have e : ∀ (q : Cert.Pre_up_tables.S_.Idx) (hs : Cert.Pre_up_tables.S1.ShapeCasts Cert.Pre_up_tables.S_), shapeCast Cert.Pre_up_tables.S_ nu hs q = nu (ix1 (n0 := 1) 0) := fun q hs => by
    unfold shapeCast
    exact congrArg _ (one_idx _ _)
  rw [e] at h1 h2
  refine ⟨fun i => ?_, ?_⟩
  · have hi := Host.reduce_andi_all _ _ _ _ _ hbe (ix1 (n0 := 640) i)
    simp only [andi, cmpi, constantI, broadcastInDim, andi_one, IntOp.cmpi, one] at hi
    have h0 := hi.1
    have h3 := hi.2
    rw [BitVec.sle_iff_toInt_le] at h0
    rw [BitVec.slt_iff_toInt_lt] at h3
    have e0 : (0#32 : BitVec 32).toInt = 0 := by decide
    have e1 : (128#32 : BitVec 32).toInt = 128 := by decide
    rw [e0] at h0
    rw [e1] at h3
    rw [BitVec.toInt_eq_toNat_cond] at h0 h3
    split at h0 <;> omega
  · simp only [IntOp.cmpi, one] at h1 h2
    rw [BitVec.sle_iff_toInt_le] at h1 h2
    have e0 : (1#32 : BitVec 32).toInt = 1 := by decide
    have e1 : (640#32 : BitVec 32).toInt = 640 := by decide
    rw [e0] at h1
    rw [e1] at h2
    rw [BitVec.toInt_eq_toNat_cond] at h1 h2
    split at h1 <;> omega

/-- The second product's precondition says the same of its tables. -/
theorem words_of_pre_down {F : FTy → Type} [FloatOps F] (x : FVec F Cert.Pre_down_tables.S327680x1024 .bf16) (w : FVec F Cert.Pre_down_tables.S128x1024x4096 .f32)
    (be : IVec Cert.Pre_down_tables.S640 32) (nu : IVec Cert.Pre_down_tables.S1 32)
    (h : Cert.Pre_down_tables.fn x w be nu = fun _ => 1#1) :
    (∀ i, (be (ix1 (n0 := 640) i)).toNat < 128) ∧ 1 ≤ (nu (ix1 (n0 := 1) 0)).toNat ∧ (nu (ix1 (n0 := 1) 0)).toNat ≤ 640 :=
  words_of_pre (F := F) (fun _ => FloatOps.ofBits .bf16 0#16) (fun _ => FloatOps.ofBits .f32 0#32) (fun _ => FloatOps.ofBits .f32 0#32) be nu h

/-- Tables in range. -/
structure InRange (be : IVec ⟨1, ![640]⟩ 32) (nu : IVec ⟨1, ![1]⟩ 32) : Prop where
  expert : ∀ b : Fin 640, (be (ix1 b)).toNat < 128
  pos : 1 ≤ (nu (ix1 0)).toNat
  le : (nu (ix1 0)).toNat ≤ 640

/-- A grid coordinate is below 2 ^ 32. -/
theorem coord_word (b : Nat) (h : b < 640) : (BitVec.ofNat 32 b).toNat = b := by
  rw [BitVec.toNat_ofNat]; omega

/-- Comparing a grid coordinate with a count compares the numbers. -/
theorem slt_word (b : Nat) (h : b < 640) (w : BitVec 32) (hw : w.toNat ≤ 640) : (BitVec.ofNat 32 b).slt w = decide (b < w.toNat) := by
  rw [Bool.eq_iff_iff, BitVec.slt_iff_toInt_lt, BitVec.toInt_eq_toNat_cond, BitVec.toInt_eq_toNat_cond, coord_word b h]
  simp only [decide_eq_true_eq]
  split <;> split <;> omega

/-- The last row block in use, or the point's own where that comes first. -/
theorem min_word (b : Nat) (h : b < 640) (w : BitVec 32) (h1 : 1 ≤ w.toNat) (h2 : w.toNat ≤ 640) :
    (Scalar.minsi (BitVec.ofNat 32 b) (w - 1#32)).toNat = min b (w.toNat - 1) := by
  have hw1 : (w - 1#32).toNat = w.toNat - 1 := by
    rw [BitVec.toNat_sub]; show (2 ^ 32 - 1 + w.toNat) % 2 ^ 32 = _; omega
  have hs := slt_word b h (w - 1#32) (by omega)
  rw [hw1] at hs
  have hm : Scalar.minsi (BitVec.ofNat 32 b) (w - 1#32) = if b < w.toNat - 1 then BitVec.ofNat 32 b else w - 1#32 := by
    show (if (BitVec.ofNat 32 b).slt (w - 1#32) = true then _ else _) = _
    simp only [hs, decide_eq_true_eq]
  rw [hm]
  by_cases hlt : b < w.toNat - 1
  · rw [if_pos hlt, coord_word b h, Nat.min_eq_left (by omega)]
  · rw [if_neg hlt, hw1, Nat.min_eq_right (by omega)]

end Cert.Experts
end
-- ==== Proof.UpTables.lean ====
/- The blocks that the first expert product's windows take at tables in range. -/
module

public import proofs.«01_k».proof.Proof.UpRun
public import proofs.«01_k».proof.Proof.Tables
public import proofs.«01_k».proof.Defs
public import Idealize.ShloMosaic.Lib.Affine
public import Idealize.ShloMosaic.Lib.Pointwise

@[expose] public section

set_option maxRecDepth 16384

noncomputable section

namespace Cert.MoeUpIdeal.Run

open Cert.MoeUpIdeal Cert.MoeUpIdeal.Gen
open Idealize.ShloMosaic
open Idealize.ShloMosaic.TcCoe

variable {F : FTy → Type} [FloatOps F]

/-- The table of experts, one per row block. -/
abbrev expertOf (pf : pre0.Contents (Elt F)) (b : Fin 640) : BitVec 32 := (pf 0 : IVec S640 32) (ix1 b)

/-- The number of row blocks in use. -/
abbrev count (pf : pre0.Contents (Elt F)) : BitVec 32 := (pf 1 : IVec S1 32) (ix1 0)

/-- Tables in range. -/
abbrev InRange (pf : pre0.Contents (Elt F)) : Prop := Experts.InRange (pf 0 : IVec S640 32) (pf 1 : IVec S1 32)

variable (pf : pre0.Contents (Elt F))

/-- The row block whose tokens a point reads: its own while that is in use, the last one in use otherwise. -/
theorem block_x (h : InRange pf) (i : grid0.Coords) : cc0_transform_0 inb_S1_S1_0 numel1_S1 pf i
    = ![min (i 1).val ((count pf).toNat - 1), 0] := by
  have hi : (i 1).val < 640 := (i 1).isLt
  have h1 := h.pos
  have h2 := h.le
  unfold cc0_transform_0
  have hw : pf.at 1 (Rect.unit (s := S1) ![0] S1.size inb_S1_S1_0) numel1_S1 = count pf := by
    show (pf 1 : IVec S1 32) _ = _
    exact congrArg _ (Experts.one_idx _ _)
  rw [hw]
  show ![(Scalar.minsi (BitVec.ofNat 32 (i 1).val) (count pf - 1#32)).toNat, 0] = _
  rw [Experts.min_word _ hi _ h1 h2]

/-- The gate weights a point reads: its row block's expert, its half of the columns. -/
theorem block_gate (i : grid0.Coords) : cc0_transform_1 k0_off1_inb numel1_S1 pf i
    = ![(expertOf pf (i 1)).toNat, 0, (i 0).val] := by
  have hi : (i 0).val < 2 := (i 0).isLt
  have hi1 : (i 1).val < 640 := (i 1).isLt
  unfold cc0_transform_1
  have hw : pf.at 0 (Rect.unit (s := S640) ![(Scalar.indexCast (BitVec.ofNat 32 (i 1).val) : Index).toNat] S1.size (k0_off1_inb i)) numel1_S1
      = expertOf pf (i 1) := by
    show (pf 0 : IVec S640 32) _ = _
    refine congrArg _ (funext fun (b : Fin 1) => ?_)
    obtain rfl : b = 0 := Subsingleton.elim (α := Fin 1) _ _
    apply Fin.ext
    show (BitVec.ofNat 32 (i 1).val).toNat + 0 * 1 = (i 1).val
    rw [BitVec.toNat_ofNat]; omega
  have hj : (BitVec.ofNat 32 (i 0).val).toNat = (i 0).val := by
    rw [BitVec.toNat_ofNat]; omega
  simp only [hw, hj]
  rfl

/-- The weights of the second factor are taken at the same place. -/
theorem block_up (i : grid0.Coords) : cc0_transform_2 k0_off1_inb numel1_S1 pf i
    = ![(expertOf pf (i 1)).toNat, 0, (i 0).val] := block_gate pf i

/-- The block of the result that a point writes. -/
theorem block_out (i : grid0.Coords) : cc0_transform_3 i = ![(i 1).val, (i 0).val] := by
  have hi : (i 0).val < 2 := (i 0).isLt
  have hi1 : (i 1).val < 640 := (i 1).isLt
  unfold cc0_transform_3
  have hj : (BitVec.ofNat 32 (i 0).val).toNat = (i 0).val := by
    rw [BitVec.toNat_ofNat]; omega
  have hb : (BitVec.ofNat 32 (i 1).val).toNat = (i 1).val := by
    rw [BitVec.toNat_ofNat]; omega
  simp only [hj, hb]

/-- At tables in range every block lies inside its array. -/
theorem ok_of_inRange (h : InRange pf) : ok0 pf := by
  refine ⟨fun i => ⟨?_, .inr (Affine.block_words_dvd (s := S327680x4096) (p := EltTy.packing .bf16) (by decide) (by decide))⟩,
    fun i => ⟨?_, .inl rfl⟩, fun i => ⟨?_, .inl rfl⟩⟩
  · have hi : (i 1).val < 640 := (i 1).isLt
    rw [block_x pf h]
    intro b
    fin_cases b
    · show (min (i 1).val _ + 1) * 512 ≤ 327680
      omega
    · show (0 + 1) * 4096 ≤ 4096
      omega
  · have he := h.expert (i 1)
    have hj : (i 0).val < 2 := (i 0).isLt
    rw [block_gate]
    intro b
    fin_cases b
    · show (_ + 1) * 1 ≤ 128
      simpa using he
    · show (0 + 1) * 4096 ≤ 4096
      omega
    · show ((i 0).val + 1) * 512 ≤ 1024
      omega
  · have he := h.expert (i 1)
    have hj : (i 0).val < 2 := (i 0).isLt
    rw [block_up]
    intro b
    fin_cases b
    · show (_ + 1) * 1 ≤ 128
      simpa using he
    · show (0 + 1) * 4096 ≤ 4096
      omega
    · show ((i 0).val + 1) * 512 ≤ 1024
      omega

end Cert.MoeUpIdeal.Run
end
-- ==== Proof.Experts.lean ====
/- The routed experts' first product, entry by entry: a token row times its block's expert's two weight matrices, the first
   product gated by its own logistic function. -/
module

public import Idealize.ShloMosaic.PureOps.Ideal
public import Idealize.ShloMosaic.Lib.Pointwise
public import Idealize.ShloMosaic.Lib.IdealHost
public import Idealize.ShloMosaic.Lib.FinSumWindow

@[expose] public section

noncomputable section

namespace Cert.Experts

open Idealize.ShloMosaic

/-- The expert that works on row block `b`, held inside the 128 there are. -/
def expert (be : IVec ⟨1, ![640]⟩ 32) (b : Fin 640) : Fin 128 := ⟨min (be (ix1 b)).toNat 127, by omega⟩

/-- The row block of token row `r`, 512 rows to a block. -/
def blockOf (r : Fin 327680) : Fin 640 := ⟨r.val / 512, by omega⟩

/-- Token row `r` of `x` times column `j` of its block's expert's matrix. -/
def dot {K N : Nat} (x : FVec Ideal ⟨2, ![327680, K]⟩ .bf16) (w : FVec Ideal ⟨3, ![128, K, N]⟩ .f32) (be : IVec ⟨1, ![640]⟩ 32)
    (r : Fin 327680) (j : Fin N) : EReal :=
  ∑ k : Fin K, x (ix2 r k) * w (ix3 (expert be (blockOf r)) k j)

/-- A logistic gate's denominator is never zero. -/
theorem gate_ne_zero (z : EReal) : (1 : EReal) + Ideal.exp z ≠ 0 := by
  have h : (0 : EReal) ≤ Ideal.exp z := by
    induction z using EReal.rec with
    | bot => exact le_refl (0 : EReal)
    | top => exact (le_top : (0 : EReal) ≤ ⊤)
    | coe r => exact EReal.coe_nonneg.2 (Real.exp_pos r).le
  have : (0 : EReal) < 1 + Ideal.exp z := lt_of_lt_of_le zero_lt_one (le_add_of_nonneg_right h)
  exact this.ne'

/-- A sum of 4096 terms by four ranges of 1024. -/
theorem sum_ranges (f : Fin 4096 → EReal) :
    (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) = ∑ k, f k := by
  rw [show (∑ k, f k) = ∑ k : Fin (1024 + 1024 + 1024 + 1024), f k from rfl, Fin.sum_univ_add, Fin.sum_univ_add, Fin.sum_univ_add]
  rfl

/-- The first product of the routed experts: zero past the row blocks in use. -/
def up (x : FVec Ideal ⟨2, ![327680, 4096]⟩ .bf16) (wg wu : FVec Ideal ⟨3, ![128, 4096, 1024]⟩ .f32) (be : IVec ⟨1, ![640]⟩ 32)
    (nu : IVec ⟨1, ![1]⟩ 32) (i : (⟨2, ![327680, 1024]⟩ : Shape).Idx) : EReal :=
  if (blockOf (i 0)).val < (nu (ix1 0)).toNat then
    Ideal.div (dot x wg be (i 0) (i 1)) (1 + Ideal.exp (-dot x wg be (i 0) (i 1))) * dot x wu be (i 0) (i 1)
  else 0

/-- The second product of the routed experts: zero past the row blocks in use. -/
def down (h : FVec Ideal ⟨2, ![327680, 1024]⟩ .bf16) (w : FVec Ideal ⟨3, ![128, 1024, 4096]⟩ .f32) (be : IVec ⟨1, ![640]⟩ 32)
    (nu : IVec ⟨1, ![1]⟩ 32) (i : (⟨2, ![327680, 4096]⟩ : Shape).Idx) : EReal :=
  if (blockOf (i 0)).val < (nu (ix1 0)).toNat then dot h w be (i 0) (i 1) else 0

end Cert.Experts
end
-- ==== Proof.UpValue.lean ====
/- The idealized first expert product's result array, entry by entry. -/
module

public import proofs.«01_k».proof.Proof.UpTables
public import proofs.«01_k».proof.Proof.Experts
public import Idealize.ShloMosaic.Lib.Pipeline.ValueKit
public import Idealize.ShloMosaic.Lib.Pipeline.Covers
public import Idealize.ShloMosaic.Lib.Pointwise
public import Idealize.ShloMosaic.Lib.Tactic.CleanTypes

@[expose] public section

set_option maxRecDepth 16384

noncomputable section

namespace Cert.MoeUpIdeal.Run

open Cert.MoeUpIdeal Cert.MoeUpIdeal.Gen
open Idealize.ShloMosaic
open Idealize.ShloMosaic.TcCoe

variable (a : (pcfg0 (F := Ideal)).Adm)
variable (m : (ℓ : Loc nD τ sig) → Buf (Elt Ideal) ℓ)

/-- The blocks of the output cover the whole output array. -/
theorem covers : ((cfgA a).win 3).Covers := of_decide_eq_true (by sl_kernel_rfl)

/-- A point whose row block is in use leaves, at row `y 0` and column `y 1` of its block, the gated product of its blocks. -/
theorem value_A (c : Dev nD) (t : Fin (cfgA a).N) (q : InUse a t) (x : S512x4096.Idx → Elt Ideal .bf16) (wg wu : S1x4096x512.Idx → Elt Ideal .f32) (y : S512x512.Idx) :
    out0_A_3 c (crd a t) (ms0 a t) (hs0 a t) (ms1 a t) (hs1 a t) (ms2 a t) (hs2 a t) (ms3 a t) (hs3 a t) (T0 a) (T1 a)
      x wg wu q (fun h => (guards _ _).1 h q) y
      = (Ideal.div (∑ k : Fin 4096, x (ix2 (y 0) k) * wg (ix3 0 k (y 1)) : EReal) (1 + Ideal.exp (-∑ k : Fin 4096, x (ix2 (y 0) k) * wg (ix3 0 k (y 1))))
        * ∑ k : Fin 4096, x (ix2 (y 0) k) * wu (ix3 0 k (y 1)) : EReal) := by
  frame_out
  unfold_payloads
  pointwise
  simp only [View.read_rep]
  rw [← Experts.sum_ranges (fun k => x (ix2 (y 0) k) * wg (ix3 0 k (y 1))), ← Experts.sum_ranges (fun k => x (ix2 (y 0) k) * wu (ix3 0 k (y 1)))]
  rw [zero_sub]
  exact congrArg₂ (· * ·) (Ideal.mul_one_div (Experts.gate_ne_zero _)) rfl

/-- A point past the row blocks in use leaves zeros. -/
theorem value_B (c : Dev nD) (t : Fin (cfgA a).N) (q : ¬InUse a t) (x : S512x4096.Idx → Elt Ideal .bf16) (wg wu : S1x4096x512.Idx → Elt Ideal .f32) (y : S512x512.Idx) :
    out0_B_3 c (crd a t) (ms0 a t) (hs0 a t) (ms1 a t) (hs1 a t) (ms2 a t) (hs2 a t) (ms3 a t) (hs3 a t) (T0 a) (T1 a)
      x wg wu q ((guards _ _).2 q) y = (0 : EReal) := by
  frame_out
  unfold_payloads
  pointwise

/-- The body's guard, as a comparison of numbers. -/
theorem inUse_iff (h : InRange a.1) (t : Fin (cfgA a).N) : InUse a t ↔ (crd a t 1).val < (count a.1).toNat := by
  have hi : (crd a t 1).val < 640 := (crd a t 1).isLt
  have h2 := h.le
  have hw : used a = count a.1 := congrArg (a.1 1 : IVec S1 32) (Experts.one_idx _ _)
  unfold InUse
  rw [hw]
  unfold k0_cond1 Scalar.cmpi Scalar.extui IntOp.cmpi
  have hs := Experts.slt_word _ hi (count a.1) h2
  simp only [hs]
  by_cases hlt : (crd a t 1).val < (count a.1).toNat <;> simp [hlt]

/-- What the result array holds after the launch. -/
abbrev result (c : Dev nD) : Buf (Elt Ideal) ((c : Thread nD τ).loc main_v0) :=
  Experts.up (m ((c : Thread nD τ).loc main_arg0)) (m ((c : Thread nD τ).loc main_arg1)) (m ((c : Thread nD τ).loc main_arg2))
    (a.1 0 : IVec S640 32) (a.1 1 : IVec S1 32)

/-- The blocks of tokens and weights that a point reads. -/
abbrev bx (c : Dev nD) (t : Fin (cfgA a).N) : S512x4096.Idx → EReal := iblk a m c (0 : Fin 4) t
/-- Step `t`'s block of the gate weights. -/
abbrev bg (c : Dev nD) (t : Fin (cfgA a).N) : S1x4096x512.Idx → EReal := iblk a m c (1 : Fin 4) t
/-- Step `t`'s block of the up weights. -/
abbrev bu (c : Dev nD) (t : Fin (cfgA a).N) : S1x4096x512.Idx → EReal := iblk a m c (2 : Fin 4) t

/-- Where a point's tokens lie in the array of tokens. -/
theorem at_x (h : InRange a.1) (c : Dev nD) (t : Fin (cfgA a).N) (q : InUse a t) (p : Fin 512) (k : Fin 4096) (r : Fin 327680)
    (hr : r.val = (crd a t 1).val * 512 + p.val) :
    iblk a m c (0 : Fin 4) t (ix2 (n0 := 512) (n1 := 4096) p k) = (m ((c : Thread nD τ).loc main_arg0) : S327680x4096.Idx → EReal) (ix2 r k) := by
  have hq := (inUse_iff a h t).1 q
  have hb := block_x a.1 h (crd a t)
  refine congrArg (m ((c : Thread nD τ).loc main_arg0)) (funext fun (b : Fin 2) => Fin.ext ?_)
  refine (ValueKit.rect_emb_unit_val _ _ _ _ _).trans ?_
  show cc0_transform_0 inb_S1_S1_0 numel1_S1 a.1 (crd a t) b * _ + _ = _
  rw [hb]
  fin_cases b
  · show min (crd a t 1).val ((count a.1).toNat - 1) * 512 + p.val = r.val
    rw [hr, Nat.min_eq_left (by omega)]
  · show 0 * 4096 + k.val = k.val
    omega

/-- Where a point's gate weights lie. -/
theorem at_gate (h : InRange a.1) (c : Dev nD) (t : Fin (cfgA a).N) (k : Fin 4096) (p : Fin 512) (e : Fin 128) (j : Fin 1024)
    (he : e.val = (expertOf a.1 (crd a t 1)).toNat) (hj : j.val = (crd a t 0).val * 512 + p.val) :
    iblk a m c (1 : Fin 4) t (ix3 (n0 := 1) (n1 := 4096) (n2 := 512) 0 k p)
      = (m ((c : Thread nD τ).loc main_arg1) : S128x4096x1024.Idx → EReal) (ix3 e k j) := by
  refine congrArg (m ((c : Thread nD τ).loc main_arg1)) (funext fun (b : Fin 3) => Fin.ext ?_)
  refine (ValueKit.rect_emb_unit_val _ _ _ _ _).trans ?_
  show cc0_transform_1 k0_off1_inb numel1_S1 a.1 (crd a t) b * _ + _ = _
  rw [block_gate]
  fin_cases b
  · show (expertOf a.1 (crd a t 1)).toNat * 1 + 0 = e.val
    omega
  · show 0 * 4096 + k.val = k.val
    omega
  · show (crd a t 0).val * 512 + p.val = j.val
    omega

/-- Where a point's second weights lie. -/
theorem at_up (h : InRange a.1) (c : Dev nD) (t : Fin (cfgA a).N) (k : Fin 4096) (p : Fin 512) (e : Fin 128) (j : Fin 1024)
    (he : e.val = (expertOf a.1 (crd a t 1)).toNat) (hj : j.val = (crd a t 0).val * 512 + p.val) :
    iblk a m c (2 : Fin 4) t (ix3 (n0 := 1) (n1 := 4096) (n2 := 512) 0 k p)
      = (m ((c : Thread nD τ).loc main_arg2) : S128x4096x1024.Idx → EReal) (ix3 e k j) := by
  refine congrArg (m ((c : Thread nD τ).loc main_arg2)) (funext fun (b : Fin 3) => Fin.ext ?_)
  refine (ValueKit.rect_emb_unit_val _ _ _ _ _).trans ?_
  show cc0_transform_2 k0_off1_inb numel1_S1 a.1 (crd a t) b * _ + _ = _
  rw [block_up]
  fin_cases b
  · show (expertOf a.1 (crd a t 1)).toNat * 1 + 0 = e.val
    omega
  · show 0 * 4096 + k.val = k.val
    omega
  · show (crd a t 0).val * 512 + p.val = j.val
    omega

/-- After the launch the result array holds the experts' first product. -/
theorem final (h : InRange a.1) (c : Dev nD) : (dats a m 0 c).arrAt 3 (cfgA a).N = result a m c := by
  refine (dats a m 0 c).arrAt_eq_of_covers 3 _ (covers a) fun t hf y => ?_
  have hi : (crd a t 1).val < 640 := (crd a t 1).isLt
  have hrow : ((((cfgA a).win 3).blk t).view.emb y (0 : Fin 2)).val = (crd a t 1).val * 512 + (y (0 : Fin 2)).val := by
    refine (ValueKit.rect_emb_unit_val _ _ _ _ _).trans ?_
    show cc0_transform_3 (crd a t) 0 * 512 + _ = _
    rw [block_out]; rfl
  have hcol : ((((cfgA a).win 3).blk t).view.emb y (1 : Fin 2)).val = (crd a t 0).val * 512 + (y (1 : Fin 2)).val := by
    refine (ValueKit.rect_emb_unit_val _ _ _ _ _).trans ?_
    show cc0_transform_3 (crd a t) 1 * 512 + _ = _
    rw [block_out]; rfl
  have hy0 : (y (0 : Fin 2)).val < 512 := (y (0 : Fin 2)).isLt
  generalize (((cfgA a).win 3).blk t).view.emb y = i at hrow hcol ⊢
  have hbl : Experts.blockOf (i (0 : Fin 2)) = crd a t 1 := Fin.ext (by
    show (i (0 : Fin 2)).val / 512 = _
    omega)
  have hex : (Experts.expert (a.1 0 : IVec S640 32) (Experts.blockOf (i (0 : Fin 2)))).val = (expertOf a.1 (crd a t 1)).toNat := by
    rw [hbl]
    have : (expertOf a.1 (crd a t 1)).toNat < 128 := h.expert (crd a t 1)
    show min (expertOf a.1 (crd a t 1)).toNat 127 = _
    omega
  show out a m c t y = Experts.up _ _ _ _ _ i
  unfold Experts.up
  by_cases q : InUse a t
  · have hq := (inUse_iff a h t).1 q
    rw [show out a m c t = _ from dif_pos q, if_pos (by rw [hbl]; exact hq)]
    refine (value_A a c t q _ _ _ y).trans ?_
    have hg : (∑ k : Fin 4096, bx a m c t (ix2 (n0 := 512) (n1 := 4096) (y (0 : Fin 2)) k) * bg a m c t (ix3 (n0 := 1) (n1 := 4096) (n2 := 512) 0 k (y (1 : Fin 2))))
        = Experts.dot (m ((c : Thread nD τ).loc main_arg0)) (m ((c : Thread nD τ).loc main_arg1)) (a.1 0 : IVec S640 32) (i (0 : Fin 2)) (i (1 : Fin 2)) :=
      Finset.sum_congr rfl fun k _ => congrArg₂ (· * ·) (at_x a m h c t q _ k _ hrow) (at_gate a m h c t k _ _ _ hex hcol)
    have hu : (∑ k : Fin 4096, bx a m c t (ix2 (n0 := 512) (n1 := 4096) (y (0 : Fin 2)) k) * bu a m c t (ix3 (n0 := 1) (n1 := 4096) (n2 := 512) 0 k (y (1 : Fin 2))))
        = Experts.dot (m ((c : Thread nD τ).loc main_arg0)) (m ((c : Thread nD τ).loc main_arg2)) (a.1 0 : IVec S640 32) (i (0 : Fin 2)) (i (1 : Fin 2)) :=
      Finset.sum_congr rfl fun k _ => congrArg₂ (· * ·) (at_x a m h c t q _ k _ hrow) (at_up a m h c t k _ _ _ hex hcol)
    rw [← hg, ← hu]
  · have hq := mt (inUse_iff a h t).2 q
    rw [show out a m c t = _ from dif_neg q, if_neg (by rw [hbl]; exact hq)]
    exact value_B a c t q _ _ _ y

end Cert.MoeUpIdeal.Run
end
-- ==== Proof.ExpertsGather.lean ====
/- How the references pick each row block's expert: the gather of whole matrices, the index it reads, and the comparison
   that decides whether a row block is in use. -/
module

public import proofs.«01_k».proof.Proof.Experts
public import Idealize.ShloMosaic.Lib.ValueIdx
public import Idealize.ShloMosaic.Lib.StableHlo

@[expose] public section

noncomputable section

namespace Cert.Experts

open Idealize.ShloMosaic

/-- The gather that takes, for each of `B` entries, one whole `K × N` matrix out of `E`. -/
abbrev pickDims (E K N B : Nat) (wf : GatherDims.WF ⟨3, ![E, K, N]⟩ ⟨2, ![B, 1]⟩ ⟨3, ![B, K, N]⟩ [1, 2] [0] [] [0] [] 1 ![1, K, N]) :
    GatherDims ⟨3, ![E, K, N]⟩ ⟨2, ![B, 1]⟩ ⟨3, ![B, K, N]⟩ where
  offsetDims := [1, 2]
  collapsedSliceDims := [0]
  operandBatchingDims := []
  startIndicesBatchingDims := []
  startIndexMap := [0]
  indexVectorDim := 1
  sliceSizes := ![1, K, N]
  wf := wf

/-- That gather at an entry: the matrix whose number the index array holds, held inside the range. -/
theorem pick_apply {α : Type} {E K N B w : Nat} (hE : 0 < E)
    (wf : GatherDims.WF ⟨3, ![E, K, N]⟩ ⟨2, ![B, 1]⟩ ⟨3, ![B, K, N]⟩ [1, 2] [0] [] [0] [] 1 ![1, K, N])
    (x : (⟨3, ![E, K, N]⟩ : Shape).Idx → α) (idx : IVec ⟨2, ![B, 1]⟩ w) (b : Fin B) (k : Fin K) (j : Fin N) :
    Host.gather (pickDims E K N B wf) x idx (ix3 b k j) = x (ix3 ⟨min (idx (ix2 b 0)).toInt.toNat (E - 1), by omega⟩ k j) := by
  unfold Host.gather
  refine congrArg x (funext fun (a : Fin 3) => Fin.ext ?_)
  show (pickDims E K N B wf).start (ix3 b k j) idx a + (pickDims E K N B wf).batchCoord (ix3 b k j) a
    + (pickDims E K N B wf).offCoord (ix3 b k j) a = _
  rw [GatherDims.batchCoord_eq_zero _ _ _ List.not_mem_nil]
  have h012 : a = 0 ∨ a = 1 ∨ a = 2 := by omega
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (pickDims E K N B wf).startIndexMap from List.mem_singleton.mpr rfl)]
    have hsi : (pickDims E K N B wf).siIdx (ix3 b k j) ⟨List.idxOf (0 : Fin 3) (pickDims E K N B wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  · unfold GatherDims.start GatherDims.offCoord
    rw [dif_neg (show (1 : Fin 3) ∉ (pickDims E K N B wf).startIndexMap from fun h => absurd (List.mem_singleton.mp h) (show ¬(1 : Fin 3) = 0 by decide)),
      dif_pos (show (1 : Fin 3) ∈ (pickDims E K N B wf).sKept from (GatherDims.mem_sKept _ _).mpr
        ⟨fun h => absurd (List.mem_singleton.mp h) (show ¬(1 : Fin 3) = 0 by decide), List.not_mem_nil⟩)]
    simp only [Nat.zero_add]
    rfl
  · unfold GatherDims.start GatherDims.offCoord
    rw [dif_neg (show (2 : Fin 3) ∉ (pickDims E K N B wf).startIndexMap from fun h => absurd (List.mem_singleton.mp h) (show ¬(2 : Fin 3) = 0 by decide)),
      dif_pos (show (2 : Fin 3) ∈ (pickDims E K N B wf).sKept from (GatherDims.mem_sKept _ _).mpr
        ⟨fun h => absurd (List.mem_singleton.mp h) (show ¬(2 : Fin 3) = 0 by decide), List.not_mem_nil⟩)]
    simp only [Nat.zero_add]
    rfl

/-- An index in range is not wrapped round. -/
theorem wrap_eq (w : BitVec 32) (h : w.toNat < 128) : Scalar.select (IntOp.cmpi .slt w 0#32) (IntOp.addi w 128#32) w = w := by
  have hs : w.slt 0#32 = false := by
    rw [Bool.eq_false_iff, Ne, BitVec.slt_iff_toInt_lt, BitVec.toInt_eq_toNat_cond]
    have : (0#32 : BitVec 32).toInt = 0 := by decide
    rw [this]
    split <;> omega
  show (if BitVec.ofBool (w.slt 0#32) = 1#1 then _ else w) = w
  rw [hs, if_neg (by decide)]

/-- Nor is it changed by being held in range. -/
theorem clamp_eq (w : BitVec 32) (h : w.toNat < 128) : min w.toInt.toNat (128 - 1) = min w.toNat 127 := by
  rw [BitVec.toInt_eq_toNat_cond]
  split <;> omega

/-- The comparison that decides whether a row block is in use, as one of numbers. -/
theorem inUse_word (b : Fin 640) (w : BitVec 32) (h : w.toNat ≤ 640) :
    IntOp.cmpi .slt (BitVec.ofNat 32 b.val) w = BitVec.ofBool (decide (b.val < w.toNat)) := by
  have hb : (BitVec.ofNat 32 b.val).toNat = b.val := by
    rw [BitVec.toNat_ofNat]; omega
  have hs : (BitVec.ofNat 32 b.val).slt w = decide (b.val < w.toNat) := by
    rw [Bool.eq_iff_iff, BitVec.slt_iff_toInt_lt, BitVec.toInt_eq_toNat_cond, BitVec.toInt_eq_toNat_cond, hb]
    simp only [decide_eq_true_eq]
    split <;> split <;> omega
  exact congrArg BitVec.ofBool hs

end Cert.Experts
end
-- ==== Proof.UpRef.lean ====
/- The reference of the experts' first product, entry by entry. -/
module

public import proofs.«01_k».proof.Proof.ExpertsGather
public import proofs.«01_k».proof.Proof.Gen.MoeUpRefIdeal.Read

@[expose] public section

set_option maxRecDepth 16384

noncomputable section

namespace Cert.MoeUpRefIdeal.Meaning

open Cert.MoeUpRefIdeal Cert.MoeUpRefIdeal.Gen Cert.MoeUpRefIdeal.Read Idealize.ShloMosaic

variable (x : FVec Ideal S327680x4096 .bf16) (w wu : FVec Ideal S128x4096x1024 .f32) (be : IVec S640 32) (nu : IVec S1 32)

/-- The index each gather reads is the block's expert. -/
theorem index_gate (h : ∀ b : Fin 640, (be (ix1 b)).toNat < 128) (b : Fin 640) : val_main_v7 (F := Ideal) be (ix2 b 0) = be (ix1 b) := by
  have hi : idx_main_v7 (ix2 b 0) = ix1 b := funext fun (a : Fin 1) => by
    obtain rfl : a = 0 := Subsingleton.elim _ _
    rfl
  rw [val_main_v7_apply, hi, val_main_v6_apply, val_main_v3_apply, val_main_v5_apply, val_main_v2_apply, val_main_v4_apply]
  exact Experts.wrap_eq _ (h b)

/-- The second gather reads the same index. -/
theorem index_up (h : ∀ b : Fin 640, (be (ix1 b)).toNat < 128) (b : Fin 640) : val_main_v16 (F := Ideal) be (ix2 b 0) = be (ix1 b) := index_gate be h b

/-- The gathered weights at an entry are the block's expert's. -/
theorem pick (h : ∀ b : Fin 640, (be (ix1 b)).toNat < 128) (b : Fin 640) (k : Fin 4096) (j : Fin 1024) (p : Fin 512) :
    val_main_v8 (F := Ideal) w be (ridx_main_v9 (ix3 b p j) k) = w (ix3 (Experts.expert be b) k j) := by
  have hi : ridx_main_v9 (ix3 b p j) k = ix3 b k j := funext fun (a : Fin 3) => by fin_cases a <;> rfl
  rw [hi]
  unfold val_main_v8
  refine (Experts.pick_apply (by decide) gather_S128x4096x1024_S640x1_S640x4096x1024_12_0_n_n_0_1_140961024.wf
    (val_main_v1 (F := Ideal) w) (val_main_v7 (F := Ideal) be) b k j).trans ?_
  refine congrArg w (funext fun (a : Fin 3) => Fin.ext ?_)
  fin_cases a
  · exact (congrArg (fun v : BitVec 32 => min v.toInt.toNat (128 - 1)) (index_gate be h b)).trans (Experts.clamp_eq _ (h b))
  · rfl
  · rfl

/-- The product with the gate weights. -/
theorem dot_gate (h : ∀ b : Fin 640, (be (ix1 b)).toNat < 128) (r : Fin 327680) (p : Fin 512) (j : Fin 1024) (hr : r.val = (Experts.blockOf r).val * 512 + p.val) :
    val_main_v9 (F := Ideal) x w be (ix3 (Experts.blockOf r) p j) = Experts.dot x w be r j := by
  rw [val_main_v9_apply]
  refine Finset.sum_congr rfl fun k _ => congrArg₂ (· * ·) ?_ ?_
  · rw [val_main_v0_apply]
    refine congrArg x (funext fun (a : Fin 2) => Fin.ext ?_)
    fin_cases a
    · show (((Experts.blockOf r).val * 512 + p.val) * 4096 + k.val) / 4096 = r.val
      omega
    · show (((Experts.blockOf r).val * 512 + p.val) * 4096 + k.val) % 4096 = k.val
      omega
  · exact pick w be h (Experts.blockOf r) k j p

/-- The product with the second weights. -/
theorem dot_up (h : ∀ b : Fin 640, (be (ix1 b)).toNat < 128) (r : Fin 327680) (p : Fin 512) (j : Fin 1024) (hr : r.val = (Experts.blockOf r).val * 512 + p.val) :
    val_main_v18 (F := Ideal) x wu be (ix3 (Experts.blockOf r) p j) = Experts.dot x wu be r j := dot_gate x wu be h r p j hr

/-- Which row blocks are in use. -/
theorem inUse (h : (nu (ix1 0)).toNat ≤ 640) (b : Fin 640) (p : Fin 512) (j : Fin 1024) :
    val_main_v31 (F := Ideal) nu (ix3 b p j) = BitVec.ofBool (decide (b.val < (nu (ix1 0)).toNat)) := by
  rw [val_main_v31_apply, val_main_v30_apply, val_main_v29_apply, val_main_v28_apply, val_main_v26_apply, ← Experts.inUse_word b _ h]
  refine congrArg (IntOp.cmpi .slt (BitVec.ofNat 32 b.val)) ?_
  unfold val_main_v27 shapeCast
  refine congrArg nu (funext fun (a : Fin 1) => ?_)
  obtain rfl : a = 0 := Subsingleton.elim _ _
  exact Subsingleton.elim (α := Fin 1) _ _

/-- The reference's result. -/
theorem value (hbe : ∀ b : Fin 640, (be (ix1 b)).toNat < 128) (hnu : (nu (ix1 0)).toNat ≤ 640) :
    val_main_v34 (F := Ideal) x w wu be nu = Experts.up x w wu be nu := by
  funext i
  obtain ⟨r, j, rfl⟩ : ∃ (r : Fin 327680) (j : Fin 1024), i = ix2 r j :=
    ⟨i (0 : Fin 2), i (1 : Fin 2), funext fun (a : Fin 2) => by fin_cases a <;> rfl⟩
  have hp : r.val % 512 < 512 := Nat.mod_lt _ (by decide)
  have hi : idx_main_v34 (ix2 r j) = ix3 (Experts.blockOf r) (⟨r.val % 512, hp⟩ : Fin 512) j :=
    funext fun (a : Fin 3) => Fin.ext (by
      fin_cases a
      · show (r.val * 1024 + j.val) / 524288 = r.val / 512
        omega
      · show (r.val * 1024 + j.val) / 1024 % 512 = r.val % 512
        omega
      · show (r.val * 1024 + j.val) % 1024 = j.val
        omega)
  have hr : r.val = (Experts.blockOf r).val * 512 + r.val % 512 := by
    show r.val = r.val / 512 * 512 + r.val % 512
    omega
  have hg := dot_gate x w be hbe r ⟨r.val % 512, hp⟩ j hr
  have hu := dot_up x wu be hbe r ⟨r.val % 512, hp⟩ j hr
  rw [val_main_v34_apply, hi, val_main_v33_apply, inUse nu hnu, val_main_v32_apply, val_main_v25_apply, val_main_v24_apply,
    val_main_v23_apply, val_main_v22_apply, val_main_v21_apply, val_main_v20_apply, val_main_v19_apply, hg, hu]
  show _ = (if (Experts.blockOf r).val < (nu (ix1 0)).toNat then
    Ideal.div (Experts.dot x w be r j) (1 + Ideal.exp (-Experts.dot x w be r j)) * Experts.dot x wu be r j else (0 : EReal))
  have hone : val_main_cst (F := Ideal) (idx_main_v21 (ix3 (Experts.blockOf r) (⟨r.val % 512, hp⟩ : Fin 512) j)) = (1 : EReal) := by
    unfold val_main_cst
    pointwise
  have hzero : val_main_cst_3 (F := Ideal) (idx_main_v32 (ix3 (Experts.blockOf r) (⟨r.val % 512, hp⟩ : Fin 512) j)) = (0 : EReal) := by
    unfold val_main_cst_3
    pointwise
  rw [hone, hzero]
  by_cases hlt : (Experts.blockOf r).val < (nu (ix1 0)).toNat
  · rw [if_pos hlt, decide_eq_true hlt]
    rfl
  · rw [if_neg hlt, decide_eq_false hlt]
    rfl

end Cert.MoeUpRefIdeal.Meaning
end
-- ==== Proof.UpClaims.lean ====
/- The idealized first expert product under its precondition: it runs, leaves its arguments alone, and computes the
   experts' first product; its reference computes the same. -/
module

public import proofs.«01_k».proof.Proof.UpValue
public import proofs.«01_k».proof.Proof.UpRef

@[expose] public section

set_option maxRecDepth 16384

noncomputable section

namespace Cert.MoeUpIdeal.Run

open Cert.MoeUpIdeal Cert.MoeUpIdeal.Gen
open Idealize.ShloMosaic Idealize.SL.Sem
open Idealize.ShloMosaic.TcCoe

variable (m : (ℓ : Loc nD τ sig) → Buf (Elt Ideal) ℓ) (ρ : Dev nD → PrngReg)

/-- The tables of a launch, as the first device holds them. -/
def tablesOf : pre0.Contents (Elt Ideal) := fun j => m (((0 : Dev nD) : Thread nD τ).loc (pre0.ref j))

/-- Under the precondition they are in range. -/
theorem inRange (h : Cert.Pre_MoeUpIdeal m) : InRange (tablesOf m) := by
  obtain ⟨h1, h2, h3⟩ := Experts.words_of_pre _ _ _ _ _ (h 0)
  exact ⟨h1, h2, h3⟩

/-- So they are admissible. -/
def admOf (h : Cert.Pre_MoeUpIdeal m) : (pcfg0 (F := Ideal)).Adm := ⟨tablesOf m, ok_of_inRange _ (inRange m h)⟩

/-- What the result array is shown to hold. -/
abbrev product (c : Dev nD) : Buf (Elt Ideal) ((c : Thread nD τ).loc main_v0) :=
  Experts.up (m ((c : Thread nD τ).loc main_arg0)) (m ((c : Thread nD τ).loc main_arg1)) (m ((c : Thread nD τ).loc main_arg2))
    (m ((c : Thread nD τ).loc main_arg3)) (m ((c : Thread nD τ).loc main_arg4))

/-- Every run ends with the experts' first product in the result array, the arguments unchanged and every semaphore at zero. -/
theorem run (h : Cert.Pre_MoeUpIdeal m) :
    θ_run (defs (F := Ideal)) (onTc (τ := τ) (main (F := Ideal))) ⟨m, fun _ => 0, ρ⟩ (fun r => (∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  have hp : ∀ (c : Dev nD) (j : Fin 2), m ((c : Thread nD τ).loc (pre0.ref j)) = (admOf m h).1 j := fun c j => by
    obtain rfl : c = 0 := Subsingleton.elim (α := Fin 1) _ _
    rfl
  refine (θ_run defs _ _).mono (fun r hr => ⟨fun c => ?_, hr.2⟩) (run_main (admOf m h) m ρ hp)
  have hc := hr.1 c
  obtain rfl : c = 0 := Subsingleton.elim (α := Fin 1) _ _
  exact ⟨(hc.1 3).trans (final (admOf m h) m (inRange m h) 0),
    (hc.1 0).trans ((dats (admOf m h) m 0 0).arrAt_in 0 rfl _), (hc.1 1).trans ((dats (admOf m h) m 0 0).arrAt_in 1 rfl _),
    (hc.1 2).trans ((dats (admOf m h) m 0 0).arrAt_in 2 rfl _), hc.2 0, hc.2 1⟩

end Cert.MoeUpIdeal.Run

namespace Cert.MoeUpRefIdeal.Meaning

open Cert.MoeUpRefIdeal Cert.MoeUpRefIdeal.Gen
open Idealize.ShloMosaic Idealize.SL.Sem
open Idealize.ShloMosaic.TcCoe

variable (m : (ℓ : Loc nD τ sig) → Buf (Elt Ideal) ℓ) (ρ : Dev nD → PrngReg)

/-- Every run of the reference at tables in range ends with the experts' first product in its result, the arguments unchanged. -/
theorem run (hbe : ∀ (c : Dev nD) (b : Fin 640), ((m ((c : Thread nD τ).loc main_arg3) : IVec S640 32) (ix1 b)).toNat < 128)
    (hnu : ∀ c : Dev nD, ((m ((c : Thread nD τ).loc main_arg4) : IVec S1 32) (ix1 0)).toNat ≤ 640) :
    θ_run (defs (F := Ideal)) (onTc (τ := τ) (main (F := Ideal))) ⟨m, fun _ => 0, ρ⟩ (fun r => ∀ c : Dev nD,
      r.2.mem ((c : Thread nD τ).loc main_v34) = Experts.up (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans ((Read.val_main_v34_eq _ _ _ _ _).trans (value _ _ _ _ _ (hbe c) (hnu c))), (h c).2⟩)
    (Value.run (F := Ideal) m ρ)

end Cert.MoeUpRefIdeal.Meaning
end
-- ==== Proof.UpFrame.lean ====
/- The first expert product, as compiled, at any tables its precondition admits: what one grid point leaves in the result's
   staging buffer, the body's obligation at a generic point, and the launch. -/
module

public import proofs.«01_k».proof.Proof.Gen.MoeUp.Flash.Runs
public import proofs.«01_k».proof.Proof.Gen.MoeUp.Launch
public import proofs.«01_k».proof.Proof.UpTables
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Tactic

@[expose] public section

set_option maxRecDepth 16384

noncomputable section

namespace Cert.MoeUp.Run

open Cert.MoeUp Cert.MoeUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Bits) ℕ (UR sig nD τ) ℕ

/-- The resource algebra of the launch: the rounds library's, embedded whole. -/
abbrev EP : Emb (UR sig nD τ) 𝕄 := emb₁

variable (a : (pcfg0 (F := Bits)).Adm)
variable (m : (ℓ : Loc nD τ sig) → Buf (Elt Bits) ℓ) (ρ : Dev nD → PrngReg)

/-- The pipeline at admissible tables. -/
abbrev cfgA : Cfg sig Λ₀ := cfg0 (F := Bits) a
/-- The launch's pipeline at the tables `a`. -/
abbrev pcs : Fin 1 → Cfg sig Λ₀ := Pipeline.pin (pcfgs (F := Bits)) fun _ => a
/-- Point `t`'s coordinates, and each window's staging memref there. -/
abbrev crd (t : Fin (cfgA a).N) : (cfgA a).grid.Coords := (cfgA a).grid.coords t
/-- The buffer that holds the first operand's block at step `t`. -/
abbrev ms0 (t : Fin (cfgA a).N) : Memref sig .tc .vmem S512x4096 .bf16 := spec0_0.stage ((cfgA a).slots t (0 : Fin 4))
/-- The first operand's buffer at step `t` is a whole buffer. -/
abbrev hs0 (t : Fin (cfgA a).N) : (ms0 a t).IsWhole := hstage0_0 (((cfgA a).slots t (0 : Fin 4)).cast nbuf0_0)
/-- The buffer that holds the second operand's block at step `t`. -/
abbrev ms1 (t : Fin (cfgA a).N) : Memref sig .tc .vmem S1x4096x512 .f32 := spec0_1.stage ((cfgA a).slots t (1 : Fin 4))
/-- The second operand's buffer at step `t` is a whole buffer. -/
abbrev hs1 (t : Fin (cfgA a).N) : (ms1 a t).IsWhole := hstage0_1 (((cfgA a).slots t (1 : Fin 4)).cast nbuf0_1)
/-- The buffer that holds the third operand's block at step `t`. -/
abbrev ms2 (t : Fin (cfgA a).N) : Memref sig .tc .vmem S1x4096x512 .f32 := spec0_2.stage ((cfgA a).slots t (2 : Fin 4))
/-- The third operand's buffer at step `t` is a whole buffer. -/
abbrev hs2 (t : Fin (cfgA a).N) : (ms2 a t).IsWhole := hstage0_2 (((cfgA a).slots t (2 : Fin 4)).cast nbuf0_2)
/-- The buffer that holds the fourth operand's block at step `t`. -/
abbrev ms3 (t : Fin (cfgA a).N) : Memref sig .tc .vmem S512x512 .bf16 := spec0_3.stage ((cfgA a).slots t (3 : Fin 4))
/-- The fourth operand's buffer at step `t` is a whole buffer. -/
abbrev hs3 (t : Fin (cfgA a).N) : (ms3 a t).IsWhole := hstage0_3 (((cfgA a).slots t (3 : Fin 4)).cast nbuf0_3)
/-- The two tables. -/
abbrev T0 : S640.Idx → Elt Bits .i32 := a.1 0
/-- The second table: the number of row blocks in use. -/
abbrev T1 : S1.Idx → Elt Bits .i32 := a.1 1
/-- The number of row blocks in use, as the body reads it. -/
abbrev used : BitVec 32 := View.readAt (Elt Bits) (tbM0_1).view (Rect.unit (s := S1) ![0] S1.size inb_S1_S1_0).toLoadRect (T1 a) (Shape.Idx.first (numel1_S1.symm ▸ Nat.one_pos))

/-- The two guards of the body are opposite, whatever word they compare with. -/
theorem guards (i : grid0.Coords) (w : BitVec 32) : k0_cond2 i w = 1#1 ↔ ¬k0_cond1 i w = 1#1 := by
  unfold k0_cond1 k0_cond2 Scalar.cmpi Scalar.extui IntOp.cmpi
  simp only [BitVec.sle_eq_not_slt]
  cases h : (BitVec.ofNat 32 (i 1).val).slt w <;> simp

/-- So every point stores the result's block. -/
theorem live (i : grid0.Coords) : (cfgA a).idle (3 : Fin 4) i = false := by
  show (!(k0_cond1 i (a.1.atD 1 ![0]) == 1#1) && !(k0_cond2 i (a.1.atD 1 ![0]) == 1#1)) = false
  have := guards i (a.1.atD 1 ![0])
  by_cases h : k0_cond1 i (a.1.atD 1 ![0]) = 1#1
  · simp [h]
  · simp [this.2 h]

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) (m (((cfgA a).win w).arr.view.loc (c : Thread nD τ)))

/-- The point's row block is in use. -/
abbrev InUse (t : Fin (cfgA a).N) : Prop := k0_cond1 (crd a t) (used a) = 1#1

/-- What point `t` leaves in the result's staging buffer: the product where its row block is in use, zeros elsewhere. -/
def out (c : Dev nD) (t : Fin (cfgA a).N) : S512x512.Idx → Elt Bits .bf16 :=
  if q : InUse a t then
    out0_A_3 c (crd a t) (ms0 a t) (hs0 a t) (ms1 a t) (hs1 a t) (ms2 a t) (hs2 a t) (ms3 a t) (hs3 a t) (T0 a) (T1 a)
      (iblk a m c (0 : Fin 4) t) (iblk a m c (1 : Fin 4) t) (iblk a m c (2 : Fin 4) t) q (fun h => (guards _ _).1 h q)
  else
    out0_B_3 c (crd a t) (ms0 a t) (hs0 a t) (ms1 a t) (hs1 a t) (ms2 a t) (hs2 a t) (ms3 a t) (hs3 a t) (T0 a) (T1 a)
      (iblk a m c (0 : Fin 4) t) (iblk a m c (1 : Fin 4) t) (iblk a m c (2 : Fin 4) t) q ((guards _ _).2 q)

/-- The invariant between points: the body's halves of the two tables. -/
def tables (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt Bits) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => out a m c t
  Φ _ := tables a c
  q _ := fullShare
  owed _ := 0

/-- An input window's staging buffer holds the window's block when the body runs. -/
theorem before0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun _ => by unfold Dat.blockOf; rfl) t d).trans
    (by unfold Dat.fetched Dat.blockOf iblk; rfl)
/-- Before step `t` the second operand's block is the one the tables name for that step. -/
theorem before1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun _ => by unfold Dat.blockOf; rfl) t d).trans
    (by unfold Dat.fetched Dat.blockOf iblk; rfl)
/-- Before step `t` the third operand's block is the one the tables name for that step. -/
theorem before2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun _ => by unfold Dat.blockOf; rfl) t d).trans
    (by unfold Dat.fetched Dat.blockOf iblk; rfl)

set_option maxHeartbeats 4000000 in
/-- The body at point `t`, by whether the point's row block is in use. -/
theorem body_at (c : Dev nD) (t : Fin (cfgA a).N) :
    iprop(tables a c ∗ (dats a m 0 c).owesAt () t.castSucc
        ∗ owns (c : Thread nD τ) (ms0 a t) fullShare (iblk a m c (0 : Fin 4) t)
        ∗ owns (c : Thread nD τ) (ms1 a t) fullShare (iblk a m c (1 : Fin 4) t)
        ∗ owns (c : Thread nD τ) (ms2 a t) fullShare (iblk a m c (2 : Fin 4) t)
        ∗ (∃ d, owns (c : Thread nD τ) (ms3 a t) fullShare d))
      ⊢ wp frame (wpE (defs₀ (F := Bits)) Variants.none c none) Set.univ
        (cc0_moe_up (crd a t) (Memref.whole main_arg3) (Memref.isWhole_whole _) (Memref.whole main_arg4) (Memref.isWhole_whole _) (ms0 a t) (hs0 a t) (ms1 a t) (hs1 a t) (ms2 a t) (hs2 a t) (ms3 a t) (hs3 a t)) fun _ =>
          iprop(tables a c ∗ (dats a m 0 c).owesAt () t.castSucc
            ∗ owns (c : Thread nD τ) (ms0 a t) fullShare (iblk a m c (0 : Fin 4) t)
            ∗ owns (c : Thread nD τ) (ms1 a t) fullShare (iblk a m c (1 : Fin 4) t)
            ∗ owns (c : Thread nD τ) (ms2 a t) fullShare (iblk a m c (2 : Fin 4) t)
            ∗ owns (c : Thread nD τ) (ms3 a t) fullShare (out a m c t)) := by
  unfold tables
  by_cases q : InUse a t
  · rw [show out a m c t = _ from dif_pos q]
    iintro ⟨⟨HT0, HT1⟩, Ho, H0, H1, H2, H3⟩
    iapply ((kernelRun0_A c (crd a t) (ms0 a t) (hs0 a t) (ms1 a t) (hs1 a t) (ms2 a t) (hs2 a t) (ms3 a t) (hs3 a t) (T0 a) (T1 a)
      (iblk a m c (0 : Fin 4) t) (iblk a m c (1 : Fin 4) t) (iblk a m c (2 : Fin 4) t) q (fun h => (guards _ _).1 h q)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexact H3
    iintro ⟨H0, H1, H2, HT0, HT1, ⟨%e3, H3⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    unfold owns; iexists _; isplitr; swap
    · iexact H3
    · ipureintro; exact View.read_writes_of_cover _ _ _ _ _ (cover0_A_3 c _ _ _ _ _ _ _ _ _ _ _ _ _ _ _ _)
  · rw [show out a m c t = _ from dif_neg q]
    iintro ⟨⟨HT0, HT1⟩, Ho, H0, H1, H2, H3⟩
    iapply ((kernelRun0_B c (crd a t) (ms0 a t) (hs0 a t) (ms1 a t) (hs1 a t) (ms2 a t) (hs2 a t) (ms3 a t) (hs3 a t) (T0 a) (T1 a)
      (iblk a m c (0 : Fin 4) t) (iblk a m c (1 : Fin 4) t) (iblk a m c (2 : Fin 4) t) q ((guards _ _).2 q)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexact H3
    iintro ⟨H0, H1, H2, HT0, HT1, ⟨%e3, H3⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    unfold owns; iexists _; isplitr; swap
    · iexact H3
    · ipureintro; exact View.read_writes_of_cover _ _ _ _ _ (cover0_B_3 c _ _ _ _ _ _ _ _ _ _ _ _ _ _ _ _)

/-- The body's obligation, at every point. -/
theorem body_obligation (c : Dev nD) : BodyObligation (dats a m 0 c) (defs₀ (F := Bits)) Variants.none () Set.univ := fun t => by
  rw [bigSep_W0, bigSep_W0]
  rewrite [live a ((cfgA a).grid.coords t), show (dats a m 0 c).Φ t.castSucc = tables a c from rfl]
  rewrite [show (dats a m 0 c).Φ t.succ = tables a c from rfl, show (dats a m 0 c).owesAt () t.succ = (dats a m 0 c).owesAt () t.castSucc from rfl]
  simp only [before0, before1, before2]
  refine BIBase.Entails.trans ?_ (body_at a m c t)
  iintro ⟨HT, Ho, ⟨%d0, H0⟩, ⟨%d1, H1⟩, ⟨%d2, H2⟩, ⟨%d3, H3⟩⟩
  isplitl [HT]; · iexact HT
  isplitl [Ho]; · iexact Ho
  isplitl [H0]; · iexact H0
  isplitl [H1]; · iexact H1
  isplitl [H2]; · iexact H2
  iexists _; iexact H3

/-- The launch's share of the rounds library. -/
def u₀ : UR sig nD τ :=
  initOf (Pipeline.cells (pcs a) ((launch0 (F := Bits)).cellOf_inj fun _ => a))
    (Pipeline.launchToks (pcs a) ((launch0 (F := Bits)).cellOf_inj fun _ => a))

/-- Every window holds its array whole. -/
theorem share_eq (c : Dev nD) (w : Fin (cfgA a).W) : (dats a m 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem enter (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = tables a c from rfl]
  unfold tables
  iintro ⟨-, ⟨HT0, HT1⟩, -⟩
  isplitl [HT0]
  · iexact HT0
  iexact HT1

/-- The invariant at the last point is let go. -/
theorem leave (c : Dev nD) : (dats a m 0 c).Φ (Fin.last (cfgA a).N) ⊢ iprop(BI.emp ∗ Pipeline.scopedRest spec0 c) := by
  rw [scopedRest0_eq]
  iintro -
  isplitr <;> iempintro

/-- What a run ends with: every array at what the pipeline computes, every table as it was. -/
def Final : PUnit × MemSt nD τ sig (Elt Bits) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From any memory whose tables are `a`: every weakly fair execution terminates, with every array at what the
    pipeline computes and every semaphore counter at zero. -/
theorem run_main (hp : ∀ (c : Dev nD) (j : Fin 2), m ((c : Thread nD τ).loc (pre0.ref j)) = a.1 j) :
    θ_run (defs (F := Bits)) (onTc (τ := τ) (main (F := Bits))) ⟨m, fun _ => 0, ρ⟩ (fun r => Final a m r ∧ r.2.sem = fun _ => 0) :=
  Pipeline.θ_run_region_noSem_pf_quiescent pcfgs (fun _ => a) (dats a m) () ((launch0 (F := Bits)).cellOf_inj fun _ => a) (0 : Fin 1)
    (launch0 (F := Bits)).win.to₀ (launch0 (F := Bits)).pre EP defs₀ Variants.none m ρ main
    (hbody := fun c => (body_obligation a m c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := Bits)).win.arr_inj c (launch0 (F := Bits)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The tables of a launch, as the first device holds them. -/
def tablesOf : pre0.Contents (Elt Bits) := fun j => m (((0 : Dev nD) : Thread nD τ).loc (pre0.ref j))

/-- Under the precondition they are admissible: the index maps are those of the idealized program. -/
theorem ok (h : Cert.Pre_MoeUp m) : ok0 (tablesOf m) := by
  obtain ⟨h1, h2, h3⟩ := Experts.words_of_pre _ _ _ _ _ (h 0)
  exact Cert.MoeUpIdeal.Run.ok_of_inRange (F := Bits) (tablesOf m) ⟨h1, h2, h3⟩

/-- Every run leaves its arguments unchanged and every semaphore at zero. -/
theorem run (h : Cert.Pre_MoeUp m) :
    θ_run (defs (F := Bits)) (onTc (τ := τ) (main (F := Bits))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  let a : (pcfg0 (F := Bits)).Adm := ⟨tablesOf m, ok m h⟩
  have hp : ∀ (c : Dev nD) (j : Fin 2), m ((c : Thread nD τ).loc (pre0.ref j)) = a.1 j := fun c j => by
    obtain rfl : c = 0 := Subsingleton.elim (α := Fin 1) _ _
    rfl
  refine (θ_run defs _ _).mono (fun r hr => ⟨fun c => ?_, hr.2⟩) (run_main a m ρ hp)
  have hc := hr.1 c
  obtain rfl : c = 0 := Subsingleton.elim (α := Fin 1) _ _
  exact ⟨(hc.1 0).trans ((dats a m 0 0).arrAt_in 0 rfl _), (hc.1 1).trans ((dats a m 0 0).arrAt_in 1 rfl _),
    (hc.1 2).trans ((dats a m 0 0).arrAt_in 2 rfl _), hc.2 0, hc.2 1⟩

end Cert.MoeUp.Run
end
-- ==== Proof.DownRun.lean ====
/- The idealized second expert product at any tables its precondition admits: what one grid point leaves in the result's
   staging buffer, the body's obligation at a generic point, and the launch. -/
module

public import proofs.«01_k».proof.Proof.Gen.MoeDownIdeal.Flash.Runs
public import proofs.«01_k».proof.Proof.Gen.MoeDownIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Tactic

@[expose] public section

set_option maxRecDepth 16384

noncomputable section

namespace Cert.MoeDownIdeal.Run

open Cert.MoeDownIdeal Cert.MoeDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

/-- The resource algebra of the launch: the rounds library's, embedded whole. -/
abbrev EP : Emb (UR sig nD τ) 𝕄 := emb₁

variable (a : (pcfg0 (F := Ideal)).Adm)
variable (m : (ℓ : Loc nD τ sig) → Buf (Elt Ideal) ℓ) (ρ : Dev nD → PrngReg)

/-- The pipeline at admissible tables. -/
abbrev cfgA : Cfg sig Λ₀ := cfg0 (F := Ideal) a
/-- The launch's pipeline at the tables `a`. -/
abbrev pcs : Fin 1 → Cfg sig Λ₀ := Pipeline.pin (pcfgs (F := Ideal)) fun _ => a
/-- Point `t`'s coordinates, and each window's staging memref there. -/
abbrev crd (t : Fin (cfgA a).N) : (cfgA a).grid.Coords := (cfgA a).grid.coords t
/-- The buffer that holds the first operand's block at step `t`. -/
abbrev ms0 (t : Fin (cfgA a).N) : Memref sig .tc .vmem S512x1024 .bf16 := spec0_0.stage ((cfgA a).slots t (0 : Fin 3))
/-- The first operand's buffer at step `t` is a whole buffer. -/
abbrev hs0 (t : Fin (cfgA a).N) : (ms0 a t).IsWhole := hstage0_0 (((cfgA a).slots t (0 : Fin 3)).cast nbuf0_0)
/-- The buffer that holds the second operand's block at step `t`. -/
abbrev ms1 (t : Fin (cfgA a).N) : Memref sig .tc .vmem S1x1024x4096 .f32 := spec0_1.stage ((cfgA a).slots t (1 : Fin 3))
/-- The second operand's buffer at step `t` is a whole buffer. -/
abbrev hs1 (t : Fin (cfgA a).N) : (ms1 a t).IsWhole := hstage0_1 (((cfgA a).slots t (1 : Fin 3)).cast nbuf0_1)
/-- The buffer that holds the third operand's block at step `t`. -/
abbrev ms2 (t : Fin (cfgA a).N) : Memref sig .tc .vmem S512x4096 .bf16 := spec0_2.stage ((cfgA a).slots t (2 : Fin 3))
/-- The third operand's buffer at step `t` is a whole buffer. -/
abbrev hs2 (t : Fin (cfgA a).N) : (ms2 a t).IsWhole := hstage0_2 (((cfgA a).slots t (2 : Fin 3)).cast nbuf0_2)
/-- The two tables. -/
abbrev T0 : S640.Idx → Elt Ideal .i32 := a.1 0
/-- The second table: the number of row blocks in use. -/
abbrev T1 : S1.Idx → Elt Ideal .i32 := a.1 1
/-- The number of row blocks in use, as the body reads it. -/
abbrev used : BitVec 32 := View.readAt (Elt Ideal) (tbM0_1).view (Rect.unit (s := S1) ![0] S1.size inb_S1_S1_0).toLoadRect (T1 a) (Shape.Idx.first (numel1_S1.symm ▸ Nat.one_pos))

/-- The two guards of the body are opposite, whatever word they compare with. -/
theorem guards (i : grid0.Coords) (w : BitVec 32) : k0_cond2 i w = 1#1 ↔ ¬k0_cond1 i w = 1#1 := by
  unfold k0_cond1 k0_cond2 Scalar.cmpi Scalar.extui IntOp.cmpi
  simp only [BitVec.sle_eq_not_slt]
  cases h : (BitVec.ofNat 32 (i 1).val).slt w <;> simp

/-- So every point stores the result's block. -/
theorem live (i : grid0.Coords) : (cfgA a).idle (2 : Fin 3) i = false := by
  show (!(k0_cond1 i (a.1.atD 1 ![0]) == 1#1) && !(k0_cond2 i (a.1.atD 1 ![0]) == 1#1)) = false
  have := guards i (a.1.atD 1 ![0])
  by_cases h : k0_cond1 i (a.1.atD 1 ![0]) = 1#1
  · simp [h]
  · simp [this.2 h]

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) (m (((cfgA a).win w).arr.view.loc (c : Thread nD τ)))

/-- The point's row block is in use. -/
abbrev InUse (t : Fin (cfgA a).N) : Prop := k0_cond1 (crd a t) (used a) = 1#1

/-- What point `t` leaves in the result's staging buffer: the product where its row block is in use, zeros elsewhere. -/
def out (c : Dev nD) (t : Fin (cfgA a).N) : S512x4096.Idx → Elt Ideal .bf16 :=
  if q : InUse a t then
    out0_A_2 c (crd a t) (ms0 a t) (hs0 a t) (ms1 a t) (hs1 a t) (ms2 a t) (hs2 a t) (T0 a) (T1 a)
      (iblk a m c (0 : Fin 3) t) (iblk a m c (1 : Fin 3) t) q (fun h => (guards _ _).1 h q)
  else
    out0_B_2 c (crd a t) (ms0 a t) (hs0 a t) (ms1 a t) (hs1 a t) (ms2 a t) (hs2 a t) (T0 a) (T1 a)
      (iblk a m c (0 : Fin 3) t) (iblk a m c (1 : Fin 3) t) q ((guards _ _).2 q)

/-- The invariant between points: the body's halves of the two tables. -/
def tables (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt Ideal) Unit ℕ (UR sig nD τ) ℕ (cfgA a) c where
  A w := m (((cfgA a).win w).arr.view.loc (c : Thread nD τ))
  after w t := match w with
    | ⟨0, _⟩ => iblk a m c (0 : Fin 3) t
    | ⟨1, _⟩ => iblk a m c (1 : Fin 3) t
    | ⟨2, _⟩ => out a m c t
  Φ _ := tables a c
  q _ := fullShare
  owed _ := 0

/-- An input window's staging buffer holds the window's block when the body runs. -/
theorem before0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun _ => by unfold Dat.blockOf; rfl) t d).trans
    (by unfold Dat.fetched Dat.blockOf iblk; rfl)
/-- Before step `t` the second operand's block is the one the tables name for that step. -/
theorem before1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun _ => by unfold Dat.blockOf; rfl) t d).trans
    (by unfold Dat.fetched Dat.blockOf iblk; rfl)

set_option maxHeartbeats 4000000 in
/-- The body at point `t`, by whether the point's row block is in use. -/
theorem body_at (c : Dev nD) (t : Fin (cfgA a).N) :
    iprop(tables a c ∗ (dats a m 0 c).owesAt () t.castSucc
        ∗ owns (c : Thread nD τ) (ms0 a t) fullShare (iblk a m c (0 : Fin 3) t)
        ∗ owns (c : Thread nD τ) (ms1 a t) fullShare (iblk a m c (1 : Fin 3) t)
        ∗ (∃ d, owns (c : Thread nD τ) (ms2 a t) fullShare d))
      ⊢ wp frame (wpE (defs₀ (F := Ideal)) Variants.none c none) Set.univ
        (cc0_moe_down (crd a t) (Memref.whole main_arg2) (Memref.isWhole_whole _) (Memref.whole main_arg3) (Memref.isWhole_whole _) (ms0 a t) (hs0 a t) (ms1 a t) (hs1 a t) (ms2 a t) (hs2 a t)) fun _ =>
          iprop(tables a c ∗ (dats a m 0 c).owesAt () t.castSucc
            ∗ owns (c : Thread nD τ) (ms0 a t) fullShare (iblk a m c (0 : Fin 3) t)
            ∗ owns (c : Thread nD τ) (ms1 a t) fullShare (iblk a m c (1 : Fin 3) t)
            ∗ owns (c : Thread nD τ) (ms2 a t) fullShare (out a m c t)) := by
  unfold tables
  by_cases q : InUse a t
  · rw [show out a m c t = _ from dif_pos q]
    iintro ⟨⟨HT0, HT1⟩, Ho, H0, H1, H2⟩
    iapply ((kernelRun0_A c (crd a t) (ms0 a t) (hs0 a t) (ms1 a t) (hs1 a t) (ms2 a t) (hs2 a t) (T0 a) (T1 a)
      (iblk a m c (0 : Fin 3) t) (iblk a m c (1 : Fin 3) t) q (fun h => (guards _ _).1 h q)).2 _)
    isplitl [H0]; · iapply rep_of_owns; iexact H0
    isplitl [H1]; · iapply rep_of_owns; iexact H1
    isplitl [HT0]; · iexact HT0
    isplitl [HT1]; · iexact HT1
    isplitl [H2]; · iexact H2
    iintro ⟨H0, H1, HT0, HT1, ⟨%e2, H2⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    unfold owns; iexists _; isplitr; swap
    · iexact H2
    · ipureintro; exact View.read_writes_of_cover _ _ _ _ _ (cover0_A_2 c _ _ _ _ _ _ _ _ _ _ _ _ _)
  · rw [show out a m c t = _ from dif_neg q]
    iintro ⟨⟨HT0, HT1⟩, Ho, H0, H1, H2⟩
    iapply ((kernelRun0_B c (crd a t) (ms0 a t) (hs0 a t) (ms1 a t) (hs1 a t) (ms2 a t) (hs2 a t) (T0 a) (T1 a)
      (iblk a m c (0 : Fin 3) t) (iblk a m c (1 : Fin 3) t) q ((guards _ _).2 q)).2 _)
    isplitl [H0]; · iapply rep_of_owns; iexact H0
    isplitl [H1]; · iapply rep_of_owns; iexact H1
    isplitl [HT0]; · iexact HT0
    isplitl [HT1]; · iexact HT1
    isplitl [H2]; · iexact H2
    iintro ⟨H0, H1, HT0, HT1, ⟨%e2, H2⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    unfold owns; iexists _; isplitr; swap
    · iexact H2
    · ipureintro; exact View.read_writes_of_cover _ _ _ _ _ (cover0_B_2 c _ _ _ _ _ _ _ _ _ _ _ _ _)

/-- The body's obligation, at every point. -/
theorem body_obligation (c : Dev nD) : BodyObligation (dats a m 0 c) (defs₀ (F := Ideal)) Variants.none () Set.univ := fun t => by
  rw [bigSep_W0, bigSep_W0]
  rewrite [live a ((cfgA a).grid.coords t), show (dats a m 0 c).Φ t.castSucc = tables a c from rfl]
  rewrite [show (dats a m 0 c).Φ t.succ = tables a c from rfl, show (dats a m 0 c).owesAt () t.succ = (dats a m 0 c).owesAt () t.castSucc from rfl]
  simp only [before0, before1]
  refine BIBase.Entails.trans ?_ (body_at a m c t)
  iintro ⟨HT, Ho, ⟨%d0, H0⟩, ⟨%d1, H1⟩, ⟨%d2, H2⟩⟩
  isplitl [HT]; · iexact HT
  isplitl [Ho]; · iexact Ho
  isplitl [H0]; · iexact H0
  isplitl [H1]; · iexact H1
  iexists _; iexact H2

/-- The launch's share of the rounds library. -/
def u₀ : UR sig nD τ :=
  initOf (Pipeline.cells (pcs a) ((launch0 (F := Ideal)).cellOf_inj fun _ => a))
    (Pipeline.launchToks (pcs a) ((launch0 (F := Ideal)).cellOf_inj fun _ => a))

/-- Every window holds its array whole. -/
theorem share_eq (c : Dev nD) (w : Fin (cfgA a).W) : (dats a m 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem enter (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = tables a c from rfl]
  unfold tables
  iintro ⟨-, ⟨HT0, HT1⟩, -⟩
  isplitl [HT0]
  · iexact HT0
  iexact HT1

/-- The invariant at the last point is let go. -/
theorem leave (c : Dev nD) : (dats a m 0 c).Φ (Fin.last (cfgA a).N) ⊢ iprop(BI.emp ∗ Pipeline.scopedRest spec0 c) := by
  rw [scopedRest0_eq]
  iintro -
  isplitr <;> iempintro

/-- What a run ends with: every array at what the pipeline computes, every table as it was. -/
def Final : PUnit × MemSt nD τ sig (Elt Ideal) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From any memory whose tables are `a`: every weakly fair execution terminates, with every array at what the
    pipeline computes and every semaphore counter at zero. -/
theorem run_main (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => Final a m r ∧ r.2.sem = fun _ => 0) :=
  Pipeline.θ_run_region_noSem_pf_quiescent pcfgs (fun _ => a) (dats a m) () ((launch0 (F := Ideal)).cellOf_inj fun _ => a) (0 : Fin 1)
    (launch0 (F := Ideal)).win.to₀ (launch0 (F := Ideal)).pre EP defs₀ Variants.none m ρ main
    (hbody := fun c => (body_obligation a m c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := Ideal)).win.arr_inj c (launch0 (F := Ideal)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.MoeDownIdeal.Run
end
-- ==== Proof.DownTables.lean ====
/- The blocks that the second expert product's windows take at tables in range. -/
module

public import proofs.«01_k».proof.Proof.DownRun
public import proofs.«01_k».proof.Proof.Tables
public import proofs.«01_k».proof.Defs
public import Idealize.ShloMosaic.Lib.Affine
public import Idealize.ShloMosaic.Lib.Pointwise

@[expose] public section

set_option maxRecDepth 16384

noncomputable section

namespace Cert.MoeDownIdeal.Run

open Cert.MoeDownIdeal Cert.MoeDownIdeal.Gen
open Idealize.ShloMosaic
open Idealize.ShloMosaic.TcCoe

variable {F : FTy → Type} [FloatOps F]

/-- The table of experts, one per row block. -/
abbrev expertOf (pf : pre0.Contents (Elt F)) (b : Fin 640) : BitVec 32 := (pf 0 : IVec S640 32) (ix1 b)

/-- The number of row blocks in use. -/
abbrev count (pf : pre0.Contents (Elt F)) : BitVec 32 := (pf 1 : IVec S1 32) (ix1 0)

/-- Tables in range. -/
abbrev InRange (pf : pre0.Contents (Elt F)) : Prop := Experts.InRange (pf 0 : IVec S640 32) (pf 1 : IVec S1 32)

variable (pf : pre0.Contents (Elt F))

/-- The row block whose tokens a point reads: its own while that is in use, the last one in use otherwise. -/
theorem block_x (h : InRange pf) (i : grid0.Coords) : cc0_transform_0 inb_S1_S1_0 numel1_S1 pf i
    = ![min (i 1).val ((count pf).toNat - 1), 0] := by
  have hi : (i 1).val < 640 := (i 1).isLt
  have h1 := h.pos
  have h2 := h.le
  unfold cc0_transform_0
  have hw : pf.at 1 (Rect.unit (s := S1) ![0] S1.size inb_S1_S1_0) numel1_S1 = count pf := by
    show (pf 1 : IVec S1 32) _ = _
    exact congrArg _ (Experts.one_idx _ _)
  rw [hw]
  show ![(Scalar.minsi (BitVec.ofNat 32 (i 1).val) (count pf - 1#32)).toNat, 0] = _
  rw [Experts.min_word _ hi _ h1 h2]

/-- The weights a point reads: its row block's expert's. -/
theorem block_w (i : grid0.Coords) : cc0_transform_1 k0_off1_inb numel1_S1 pf i = ![(expertOf pf (i 1)).toNat, 0, 0] := by
  have hi1 : (i 1).val < 640 := (i 1).isLt
  unfold cc0_transform_1
  have hw : pf.at 0 (Rect.unit (s := S640) ![(Scalar.indexCast (BitVec.ofNat 32 (i 1).val) : Index).toNat] S1.size (k0_off1_inb i)) numel1_S1
      = expertOf pf (i 1) := by
    show (pf 0 : IVec S640 32) _ = _
    refine congrArg _ (funext fun (b : Fin 1) => ?_)
    obtain rfl : b = 0 := Subsingleton.elim (α := Fin 1) _ _
    apply Fin.ext
    show (BitVec.ofNat 32 (i 1).val).toNat + 0 * 1 = (i 1).val
    rw [Experts.coord_word _ hi1]; omega
  simp only [hw]
  rfl

/-- The block of the result that a point writes. -/
theorem block_out (i : grid0.Coords) : cc0_transform_2 i = ![(i 1).val, 0] := by
  have hi1 : (i 1).val < 640 := (i 1).isLt
  unfold cc0_transform_2
  simp only [Experts.coord_word _ hi1]
  rfl

/-- At tables in range every block lies inside its array. -/
theorem ok_of_inRange (h : InRange pf) : ok0 pf := by
  refine ⟨fun i => ⟨?_, .inr (Affine.block_words_dvd (s := S327680x1024) (p := EltTy.packing .bf16) (by decide) (by decide))⟩,
    fun i => ⟨?_, .inl rfl⟩⟩
  · have hi : (i 1).val < 640 := (i 1).isLt
    rw [block_x pf h]
    intro b
    fin_cases b
    · show (min (i 1).val _ + 1) * 512 ≤ 327680
      omega
    · show (0 + 1) * 1024 ≤ 1024
      omega
  · have he : (expertOf pf (i 1)).toNat < 128 := h.expert (i 1)
    rw [block_w]
    intro b
    fin_cases b
    · show (_ + 1) * 1 ≤ 128
      simpa using he
    · show (0 + 1) * 1024 ≤ 1024
      omega
    · show (0 + 1) * 4096 ≤ 4096
      omega

end Cert.MoeDownIdeal.Run
end
-- ==== Proof.DownValue.lean ====
/- The idealized second expert product's result array, entry by entry. -/
module

public import proofs.«01_k».proof.Proof.DownTables
public import proofs.«01_k».proof.Proof.Experts
public import Idealize.ShloMosaic.Lib.Pipeline.ValueKit
public import Idealize.ShloMosaic.Lib.Pipeline.Covers
public import Idealize.ShloMosaic.Lib.Pointwise
public import Idealize.ShloMosaic.Lib.Tactic.CleanTypes

@[expose] public section

set_option maxRecDepth 16384

noncomputable section

namespace Cert.MoeDownIdeal.Run

open Cert.MoeDownIdeal Cert.MoeDownIdeal.Gen
open Idealize.ShloMosaic
open Idealize.ShloMosaic.TcCoe

variable (a : (pcfg0 (F := Ideal)).Adm)
variable (m : (ℓ : Loc nD τ sig) → Buf (Elt Ideal) ℓ)

/-- The blocks written back tile the result array. -/
theorem covers : ((cfgA a).win 2).Covers := of_decide_eq_true (by sl_kernel_rfl)

/-- A point whose row block is in use leaves, at row `y 0` and column `y 1` of its block, the product of its blocks. -/
theorem value_A (c : Dev nD) (t : Fin (cfgA a).N) (q : InUse a t) (x : S512x1024.Idx → Elt Ideal .bf16) (w : S1x1024x4096.Idx → Elt Ideal .f32) (y : S512x4096.Idx) :
    out0_A_2 c (crd a t) (ms0 a t) (hs0 a t) (ms1 a t) (hs1 a t) (ms2 a t) (hs2 a t) (T0 a) (T1 a)
      x w q (fun h => (guards _ _).1 h q) y
      = (∑ k : Fin 1024, x (ix2 (y 0) k) * w (ix3 0 k (y 1)) : EReal) := by
  frame_out
  unfold_payloads
  pointwise
  simp only [View.read_rep]
  canon_tiles z h
  all_goals pointwise
  all_goals
    exact Finset.sum_congr rfl fun k _ => congrArg₂ (fun (r : Fin 512) (j : Fin 4096) => (x (ix2 r k) * w (ix3 0 k j) : EReal))
      (Fin.ext h0.symm) (Fin.ext h1.symm)

/-- A point past the row blocks in use leaves zeros. -/
theorem value_B (c : Dev nD) (t : Fin (cfgA a).N) (q : ¬InUse a t) (x : S512x1024.Idx → Elt Ideal .bf16) (w : S1x1024x4096.Idx → Elt Ideal .f32) (y : S512x4096.Idx) :
    out0_B_2 c (crd a t) (ms0 a t) (hs0 a t) (ms1 a t) (hs1 a t) (ms2 a t) (hs2 a t) (T0 a) (T1 a)
      x w q ((guards _ _).2 q) y = (0 : EReal) := by
  frame_out
  unfold_payloads
  pointwise

/-- The body's guard, as a comparison of numbers. -/
theorem inUse_iff (h : InRange a.1) (t : Fin (cfgA a).N) : InUse a t ↔ (crd a t 1).val < (count a.1).toNat := by
  have hi : (crd a t 1).val < 640 := (crd a t 1).isLt
  have h2 := h.le
  have hw : used a = count a.1 := congrArg (a.1 1 : IVec S1 32) (Experts.one_idx _ _)
  unfold InUse
  rw [hw]
  unfold k0_cond1 Scalar.cmpi Scalar.extui IntOp.cmpi
  have hs := Experts.slt_word _ hi (count a.1) h2
  simp only [hs]
  by_cases hlt : (crd a t 1).val < (count a.1).toNat <;> simp [hlt]

/-- What the result array holds after the launch. -/
abbrev result (c : Dev nD) : Buf (Elt Ideal) ((c : Thread nD τ).loc main_v0) :=
  Experts.down (m ((c : Thread nD τ).loc main_arg0)) (m ((c : Thread nD τ).loc main_arg1)) (a.1 0 : IVec S640 32) (a.1 1 : IVec S1 32)

/-- The block of gated rows that a point reads. -/
abbrev bx (c : Dev nD) (t : Fin (cfgA a).N) : S512x1024.Idx → EReal := iblk a m c (0 : Fin 3) t
/-- The block of weights that a point reads. -/
abbrev bw (c : Dev nD) (t : Fin (cfgA a).N) : S1x1024x4096.Idx → EReal := iblk a m c (1 : Fin 3) t

/-- Where a point's rows lie in their array. -/
theorem at_x (h : InRange a.1) (c : Dev nD) (t : Fin (cfgA a).N) (q : InUse a t) (p : Fin 512) (k : Fin 1024) (r : Fin 327680)
    (hr : r.val = (crd a t 1).val * 512 + p.val) :
    iblk a m c (0 : Fin 3) t (ix2 (n0 := 512) (n1 := 1024) p k) = (m ((c : Thread nD τ).loc main_arg0) : S327680x1024.Idx → EReal) (ix2 r k) := by
  have hq := (inUse_iff a h t).1 q
  have hb := block_x a.1 h (crd a t)
  refine congrArg (m ((c : Thread nD τ).loc main_arg0)) (funext fun (b : Fin 2) => Fin.ext ?_)
  refine (ValueKit.rect_emb_unit_val _ _ _ _ _).trans ?_
  show cc0_transform_0 inb_S1_S1_0 numel1_S1 a.1 (crd a t) b * _ + _ = _
  rw [hb]
  fin_cases b
  · show min (crd a t 1).val ((count a.1).toNat - 1) * 512 + p.val = r.val
    rw [hr, Nat.min_eq_left (by omega)]
  · show 0 * 1024 + k.val = k.val
    omega

/-- Where a point's weights lie. -/
theorem at_w (c : Dev nD) (t : Fin (cfgA a).N) (k : Fin 1024) (p : Fin 4096) (e : Fin 128) (j : Fin 4096)
    (he : e.val = (expertOf a.1 (crd a t 1)).toNat) (hj : j.val = p.val) :
    iblk a m c (1 : Fin 3) t (ix3 (n0 := 1) (n1 := 1024) (n2 := 4096) 0 k p)
      = (m ((c : Thread nD τ).loc main_arg1) : S128x1024x4096.Idx → EReal) (ix3 e k j) := by
  refine congrArg (m ((c : Thread nD τ).loc main_arg1)) (funext fun (b : Fin 3) => Fin.ext ?_)
  refine (ValueKit.rect_emb_unit_val _ _ _ _ _).trans ?_
  show cc0_transform_1 k0_off1_inb numel1_S1 a.1 (crd a t) b * _ + _ = _
  rw [block_w]
  fin_cases b
  · show (expertOf a.1 (crd a t 1)).toNat * 1 + 0 = e.val
    omega
  · show 0 * 1024 + k.val = k.val
    omega
  · show 0 * 4096 + p.val = j.val
    omega

/-- After the launch the result array holds the experts' second product. -/
theorem final (h : InRange a.1) (c : Dev nD) : (dats a m 0 c).arrAt 2 (cfgA a).N = result a m c := by
  refine (dats a m 0 c).arrAt_eq_of_covers 2 _ (covers a) fun t hf y => ?_
  have hi : (crd a t 1).val < 640 := (crd a t 1).isLt
  have hrow : ((((cfgA a).win 2).blk t).view.emb y (0 : Fin 2)).val = (crd a t 1).val * 512 + (y (0 : Fin 2)).val := by
    refine (ValueKit.rect_emb_unit_val _ _ _ _ _).trans ?_
    show cc0_transform_2 (crd a t) 0 * 512 + _ = _
    rw [block_out]; rfl
  have hcol : ((((cfgA a).win 2).blk t).view.emb y (1 : Fin 2)).val = (y (1 : Fin 2)).val := by
    refine (ValueKit.rect_emb_unit_val _ _ _ _ _).trans ?_
    show cc0_transform_2 (crd a t) 1 * 4096 + _ = _
    rw [block_out]
    show 0 * 4096 + (y (1 : Fin 2)).val = _
    omega
  have hy0 : (y (0 : Fin 2)).val < 512 := (y (0 : Fin 2)).isLt
  generalize (((cfgA a).win 2).blk t).view.emb y = i at hrow hcol ⊢
  have hbl : Experts.blockOf (i (0 : Fin 2)) = crd a t 1 := Fin.ext (by
    show (i (0 : Fin 2)).val / 512 = _
    omega)
  have hex : (Experts.expert (a.1 0 : IVec S640 32) (Experts.blockOf (i (0 : Fin 2)))).val = (expertOf a.1 (crd a t 1)).toNat := by
    rw [hbl]
    have : (expertOf a.1 (crd a t 1)).toNat < 128 := h.expert (crd a t 1)
    show min (expertOf a.1 (crd a t 1)).toNat 127 = _
    omega
  show out a m c t y = Experts.down _ _ _ _ i
  unfold Experts.down
  by_cases q : InUse a t
  · have hq := (inUse_iff a h t).1 q
    rw [show out a m c t = _ from dif_pos q, if_pos (by rw [hbl]; exact hq)]
    refine (value_A a c t q _ _ y).trans ?_
    exact Finset.sum_congr rfl fun k _ => congrArg₂ (· * ·) (at_x a m h c t q _ k _ hrow) (at_w a m c t k _ _ _ hex hcol)
  · have hq := mt (inUse_iff a h t).2 q
    rw [show out a m c t = _ from dif_neg q, if_neg (by rw [hbl]; exact hq)]
    exact value_B a c t q _ _ y

end Cert.MoeDownIdeal.Run
end
-- ==== Proof.DownRef.lean ====
/- The reference of the experts' second product, entry by entry. -/
module

public import proofs.«01_k».proof.Proof.ExpertsGather
public import proofs.«01_k».proof.Proof.Gen.MoeDownRefIdeal.Read

@[expose] public section

set_option maxRecDepth 16384

noncomputable section

namespace Cert.MoeDownRefIdeal.Meaning

open Cert.MoeDownRefIdeal Cert.MoeDownRefIdeal.Gen Cert.MoeDownRefIdeal.Read Idealize.ShloMosaic

variable (x : FVec Ideal S327680x1024 .bf16) (w : FVec Ideal S128x1024x4096 .f32) (be : IVec S640 32) (nu : IVec S1 32)

/-- The index the gather reads is the block's expert. -/
theorem index_w (h : ∀ b : Fin 640, (be (ix1 b)).toNat < 128) (b : Fin 640) : val_main_v7 (F := Ideal) be (ix2 b 0) = be (ix1 b) := by
  have hi : idx_main_v7 (ix2 b 0) = ix1 b := funext fun (a : Fin 1) => by
    obtain rfl : a = 0 := Subsingleton.elim _ _
    rfl
  rw [val_main_v7_apply, hi, val_main_v6_apply, val_main_v3_apply, val_main_v5_apply, val_main_v2_apply, val_main_v4_apply]
  exact Experts.wrap_eq _ (h b)

/-- The gathered weights at an entry are the block's expert's. -/
theorem pick (h : ∀ b : Fin 640, (be (ix1 b)).toNat < 128) (b : Fin 640) (k : Fin 1024) (j : Fin 4096) (p : Fin 512) :
    val_main_v8 (F := Ideal) w be (ridx_main_v9 (ix3 b p j) k) = w (ix3 (Experts.expert be b) k j) := by
  have hi : ridx_main_v9 (ix3 b p j) k = ix3 b k j := funext fun (a : Fin 3) => by fin_cases a <;> rfl
  rw [hi]
  unfold val_main_v8
  refine (Experts.pick_apply (by decide) gather_S128x1024x4096_S640x1_S640x1024x4096_12_0_n_n_0_1_110244096.wf
    (val_main_v1 (F := Ideal) w) (val_main_v7 (F := Ideal) be) b k j).trans ?_
  refine congrArg w (funext fun (a : Fin 3) => Fin.ext ?_)
  fin_cases a
  · exact (congrArg (fun v : BitVec 32 => min v.toInt.toNat (128 - 1)) (index_w be h b)).trans (Experts.clamp_eq _ (h b))
  · rfl
  · rfl

/-- The product with the weights. -/
theorem dot_w (h : ∀ b : Fin 640, (be (ix1 b)).toNat < 128) (r : Fin 327680) (p : Fin 512) (j : Fin 4096) (hr : r.val = (Experts.blockOf r).val * 512 + p.val) :
    val_main_v9 (F := Ideal) x w be (ix3 (Experts.blockOf r) p j) = Experts.dot x w be r j := by
  rw [val_main_v9_apply]
  refine Finset.sum_congr rfl fun k _ => congrArg₂ (· * ·) ?_ ?_
  · rw [val_main_v0_apply]
    refine congrArg x (funext fun (a : Fin 2) => Fin.ext ?_)
    fin_cases a
    · show (((Experts.blockOf r).val * 512 + p.val) * 1024 + k.val) / 1024 = r.val
      omega
    · show (((Experts.blockOf r).val * 512 + p.val) * 1024 + k.val) % 1024 = k.val
      omega
  · exact pick w be h (Experts.blockOf r) k j p

/-- Which row blocks are in use. -/
theorem inUse (h : (nu (ix1 0)).toNat ≤ 640) (b : Fin 640) (p : Fin 512) (j : Fin 4096) :
    val_main_v16 (F := Ideal) nu (ix3 b p j) = BitVec.ofBool (decide (b.val < (nu (ix1 0)).toNat)) := by
  rw [val_main_v16_apply, val_main_v15_apply, val_main_v14_apply, val_main_v13_apply, val_main_v11_apply, ← Experts.inUse_word b _ h]
  refine congrArg (IntOp.cmpi .slt (BitVec.ofNat 32 b.val)) ?_
  unfold val_main_v12 shapeCast
  refine congrArg nu (funext fun (a : Fin 1) => ?_)
  obtain rfl : a = 0 := Subsingleton.elim _ _
  exact Subsingleton.elim (α := Fin 1) _ _

/-- The reference's result. -/
theorem value (hbe : ∀ b : Fin 640, (be (ix1 b)).toNat < 128) (hnu : (nu (ix1 0)).toNat ≤ 640) :
    val_main_v19 (F := Ideal) x w be nu = Experts.down x w be nu := by
  funext i
  obtain ⟨r, j, rfl⟩ : ∃ (r : Fin 327680) (j : Fin 4096), i = ix2 r j :=
    ⟨i (0 : Fin 2), i (1 : Fin 2), funext fun (a : Fin 2) => by fin_cases a <;> rfl⟩
  have hp : r.val % 512 < 512 := Nat.mod_lt _ (by decide)
  have hi : idx_main_v19 (ix2 r j) = ix3 (Experts.blockOf r) (⟨r.val % 512, hp⟩ : Fin 512) j :=
    funext fun (a : Fin 3) => Fin.ext (by
      fin_cases a
      · show (r.val * 4096 + j.val) / 2097152 = r.val / 512
        omega
      · show (r.val * 4096 + j.val) / 4096 % 512 = r.val % 512
        omega
      · show (r.val * 4096 + j.val) % 4096 = j.val
        omega)
  have hr : r.val = (Experts.blockOf r).val * 512 + r.val % 512 := by
    show r.val = r.val / 512 * 512 + r.val % 512
    omega
  have hd := dot_w x w be hbe r ⟨r.val % 512, hp⟩ j hr
  rw [val_main_v19_apply, hi, val_main_v18_apply, inUse nu hnu, val_main_v17_apply, val_main_v10_apply, hd]
  show _ = (if (Experts.blockOf r).val < (nu (ix1 0)).toNat then Experts.dot x w be r j else (0 : EReal))
  have hzero : val_main_cst (F := Ideal) (idx_main_v17 (ix3 (Experts.blockOf r) (⟨r.val % 512, hp⟩ : Fin 512) j)) = (0 : EReal) := by
    unfold val_main_cst
    pointwise
  rw [hzero]
  by_cases hlt : (Experts.blockOf r).val < (nu (ix1 0)).toNat
  · rw [if_pos hlt, decide_eq_true hlt]
    rfl
  · rw [if_neg hlt, decide_eq_false hlt]
    rfl

end Cert.MoeDownRefIdeal.Meaning
end
-- ==== Proof.DownClaims.lean ====
/- The idealized second expert product under its precondition: it runs, leaves its arguments alone, and computes the
   experts' second product; its reference computes the same. -/
module

public import proofs.«01_k».proof.Proof.DownValue
public import proofs.«01_k».proof.Proof.DownRef

@[expose] public section

set_option maxRecDepth 16384

noncomputable section

namespace Cert.MoeDownIdeal.Run

open Cert.MoeDownIdeal Cert.MoeDownIdeal.Gen
open Idealize.ShloMosaic Idealize.SL.Sem
open Idealize.ShloMosaic.TcCoe

variable (m : (ℓ : Loc nD τ sig) → Buf (Elt Ideal) ℓ) (ρ : Dev nD → PrngReg)

/-- The tables of a launch, as the first device holds them. -/
def tablesOf : pre0.Contents (Elt Ideal) := fun j => m (((0 : Dev nD) : Thread nD τ).loc (pre0.ref j))

/-- Under the precondition they are in range. -/
theorem inRange (h : Cert.Pre_MoeDownIdeal m) : InRange (tablesOf m) := by
  obtain ⟨h1, h2, h3⟩ := Experts.words_of_pre_down _ _ _ _ (h 0)
  exact ⟨h1, h2, h3⟩

/-- So they are admissible. -/
def admOf (h : Cert.Pre_MoeDownIdeal m) : (pcfg0 (F := Ideal)).Adm := ⟨tablesOf m, ok_of_inRange _ (inRange m h)⟩

/-- What the result array is shown to hold. -/
abbrev product (c : Dev nD) : Buf (Elt Ideal) ((c : Thread nD τ).loc main_v0) :=
  Experts.down (m ((c : Thread nD τ).loc main_arg0)) (m ((c : Thread nD τ).loc main_arg1)) (m ((c : Thread nD τ).loc main_arg2))
    (m ((c : Thread nD τ).loc main_arg3))

/-- Every run ends with the experts' second product in the result array, the arguments unchanged and every semaphore at zero. -/
theorem run (h : Cert.Pre_MoeDownIdeal m) :
    θ_run (defs (F := Ideal)) (onTc (τ := τ) (main (F := Ideal))) ⟨m, fun _ => 0, ρ⟩ (fun r => (∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  have hp : ∀ (c : Dev nD) (j : Fin 2), m ((c : Thread nD τ).loc (pre0.ref j)) = (admOf m h).1 j := fun c j => by
    obtain rfl : c = 0 := Subsingleton.elim (α := Fin 1) _ _
    rfl
  refine (θ_run defs _ _).mono (fun r hr => ⟨fun c => ?_, hr.2⟩) (run_main (admOf m h) m ρ hp)
  have hc := hr.1 c
  obtain rfl : c = 0 := Subsingleton.elim (α := Fin 1) _ _
  exact ⟨(hc.1 2).trans (final (admOf m h) m (inRange m h) 0),
    (hc.1 0).trans ((dats (admOf m h) m 0 0).arrAt_in 0 rfl _), (hc.1 1).trans ((dats (admOf m h) m 0 0).arrAt_in 1 rfl _),
    hc.2 0, hc.2 1⟩

end Cert.MoeDownIdeal.Run

namespace Cert.MoeDownRefIdeal.Meaning

open Cert.MoeDownRefIdeal Cert.MoeDownRefIdeal.Gen
open Idealize.ShloMosaic Idealize.SL.Sem
open Idealize.ShloMosaic.TcCoe

variable (m : (ℓ : Loc nD τ sig) → Buf (Elt Ideal) ℓ) (ρ : Dev nD → PrngReg)

/-- Every run of the reference at tables in range ends with the experts' second product in its result, the arguments unchanged. -/
theorem run (hbe : ∀ (c : Dev nD) (b : Fin 640), ((m ((c : Thread nD τ).loc main_arg2) : IVec S640 32) (ix1 b)).toNat < 128)
    (hnu : ∀ c : Dev nD, ((m ((c : Thread nD τ).loc main_arg3) : IVec S1 32) (ix1 0)).toNat ≤ 640) :
    θ_run (defs (F := Ideal)) (onTc (τ := τ) (main (F := Ideal))) ⟨m, fun _ => 0, ρ⟩ (fun r => ∀ c : Dev nD,
      r.2.mem ((c : Thread nD τ).loc main_v19) = Experts.down (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans ((Read.val_main_v19_eq _ _ _ _).trans (value _ _ _ _ (hbe c) (hnu c))), (h c).2⟩)
    (Value.run (F := Ideal) m ρ)

end Cert.MoeDownRefIdeal.Meaning
end
-- ==== Proof.DownFrame.lean ====
/- The second expert product, as compiled, at any tables its precondition admits: what one grid point leaves in the result's
   staging buffer, the body's obligation at a generic point, and the launch. -/
module

public import proofs.«01_k».proof.Proof.Gen.MoeDown.Flash.Runs
public import proofs.«01_k».proof.Proof.Gen.MoeDown.Launch
public import proofs.«01_k».proof.Proof.DownTables
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Tactic

@[expose] public section

set_option maxRecDepth 16384

noncomputable section

namespace Cert.MoeDown.Run

open Cert.MoeDown Cert.MoeDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Bits) ℕ (UR sig nD τ) ℕ

/-- The resource algebra of the launch: the rounds library's, embedded whole. -/
abbrev EP : Emb (UR sig nD τ) 𝕄 := emb₁

variable (a : (pcfg0 (F := Bits)).Adm)
variable (m : (ℓ : Loc nD τ sig) → Buf (Elt Bits) ℓ) (ρ : Dev nD → PrngReg)

/-- The pipeline at admissible tables. -/
abbrev cfgA : Cfg sig Λ₀ := cfg0 (F := Bits) a
/-- The launch's pipeline at the tables `a`. -/
abbrev pcs : Fin 1 → Cfg sig Λ₀ := Pipeline.pin (pcfgs (F := Bits)) fun _ => a
/-- Point `t`'s coordinates, and each window's staging memref there. -/
abbrev crd (t : Fin (cfgA a).N) : (cfgA a).grid.Coords := (cfgA a).grid.coords t
/-- The buffer that holds the first operand's block at step `t`. -/
abbrev ms0 (t : Fin (cfgA a).N) : Memref sig .tc .vmem S512x1024 .bf16 := spec0_0.stage ((cfgA a).slots t (0 : Fin 3))
/-- The first operand's buffer at step `t` is a whole buffer. -/
abbrev hs0 (t : Fin (cfgA a).N) : (ms0 a t).IsWhole := hstage0_0 (((cfgA a).slots t (0 : Fin 3)).cast nbuf0_0)
/-- The buffer that holds the second operand's block at step `t`. -/
abbrev ms1 (t : Fin (cfgA a).N) : Memref sig .tc .vmem S1x1024x4096 .f32 := spec0_1.stage ((cfgA a).slots t (1 : Fin 3))
/-- The second operand's buffer at step `t` is a whole buffer. -/
abbrev hs1 (t : Fin (cfgA a).N) : (ms1 a t).IsWhole := hstage0_1 (((cfgA a).slots t (1 : Fin 3)).cast nbuf0_1)
/-- The buffer that holds the third operand's block at step `t`. -/
abbrev ms2 (t : Fin (cfgA a).N) : Memref sig .tc .vmem S512x4096 .bf16 := spec0_2.stage ((cfgA a).slots t (2 : Fin 3))
/-- The third operand's buffer at step `t` is a whole buffer. -/
abbrev hs2 (t : Fin (cfgA a).N) : (ms2 a t).IsWhole := hstage0_2 (((cfgA a).slots t (2 : Fin 3)).cast nbuf0_2)
/-- The two tables. -/
abbrev T0 : S640.Idx → Elt Bits .i32 := a.1 0
/-- The second table: the number of row blocks in use. -/
abbrev T1 : S1.Idx → Elt Bits .i32 := a.1 1
/-- The number of row blocks in use, as the body reads it. -/
abbrev used : BitVec 32 := View.readAt (Elt Bits) (tbM0_1).view (Rect.unit (s := S1) ![0] S1.size inb_S1_S1_0).toLoadRect (T1 a) (Shape.Idx.first (numel1_S1.symm ▸ Nat.one_pos))

/-- The two guards of the body are opposite, whatever word they compare with. -/
theorem guards (i : grid0.Coords) (w : BitVec 32) : k0_cond2 i w = 1#1 ↔ ¬k0_cond1 i w = 1#1 := by
  unfold k0_cond1 k0_cond2 Scalar.cmpi Scalar.extui IntOp.cmpi
  simp only [BitVec.sle_eq_not_slt]
  cases h : (BitVec.ofNat 32 (i 1).val).slt w <;> simp

/-- So every point stores the result's block. -/
theorem live (i : grid0.Coords) : (cfgA a).idle (2 : Fin 3) i = false := by
  show (!(k0_cond1 i (a.1.atD 1 ![0]) == 1#1) && !(k0_cond2 i (a.1.atD 1 ![0]) == 1#1)) = false
  have := guards i (a.1.atD 1 ![0])
  by_cases h : k0_cond1 i (a.1.atD 1 ![0]) = 1#1
  · simp [h]
  · simp [this.2 h]

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) (m (((cfgA a).win w).arr.view.loc (c : Thread nD τ)))

/-- The point's row block is in use. -/
abbrev InUse (t : Fin (cfgA a).N) : Prop := k0_cond1 (crd a t) (used a) = 1#1

/-- What point `t` leaves in the result's staging buffer: the product where its row block is in use, zeros elsewhere. -/
def out (c : Dev nD) (t : Fin (cfgA a).N) : S512x4096.Idx → Elt Bits .bf16 :=
  if q : InUse a t then
    out0_A_2 c (crd a t) (ms0 a t) (hs0 a t) (ms1 a t) (hs1 a t) (ms2 a t) (hs2 a t) (T0 a) (T1 a)
      (iblk a m c (0 : Fin 3) t) (iblk a m c (1 : Fin 3) t) q (fun h => (guards _ _).1 h q)
  else
    out0_B_2 c (crd a t) (ms0 a t) (hs0 a t) (ms1 a t) (hs1 a t) (ms2 a t) (hs2 a t) (T0 a) (T1 a)
      (iblk a m c (0 : Fin 3) t) (iblk a m c (1 : Fin 3) t) q ((guards _ _).2 q)

/-- The invariant between points: the body's halves of the two tables. -/
def tables (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt Bits) Unit ℕ (UR sig nD τ) ℕ (cfgA a) c where
  A w := m (((cfgA a).win w).arr.view.loc (c : Thread nD τ))
  after w t := match w with
    | ⟨0, _⟩ => iblk a m c (0 : Fin 3) t
    | ⟨1, _⟩ => iblk a m c (1 : Fin 3) t
    | ⟨2, _⟩ => out a m c t
  Φ _ := tables a c
  q _ := fullShare
  owed _ := 0

/-- An input window's staging buffer holds the window's block when the body runs. -/
theorem before0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun _ => by unfold Dat.blockOf; rfl) t d).trans
    (by unfold Dat.fetched Dat.blockOf iblk; rfl)
/-- Before step `t` the second operand's block is the one the tables name for that step. -/
theorem before1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun _ => by unfold Dat.blockOf; rfl) t d).trans
    (by unfold Dat.fetched Dat.blockOf iblk; rfl)

set_option maxHeartbeats 4000000 in
/-- The body at point `t`, by whether the point's row block is in use. -/
theorem body_at (c : Dev nD) (t : Fin (cfgA a).N) :
    iprop(tables a c ∗ (dats a m 0 c).owesAt () t.castSucc
        ∗ owns (c : Thread nD τ) (ms0 a t) fullShare (iblk a m c (0 : Fin 3) t)
        ∗ owns (c : Thread nD τ) (ms1 a t) fullShare (iblk a m c (1 : Fin 3) t)
        ∗ (∃ d, owns (c : Thread nD τ) (ms2 a t) fullShare d))
      ⊢ wp frame (wpE (defs₀ (F := Bits)) Variants.none c none) Set.univ
        (cc0_moe_down (crd a t) (Memref.whole main_arg2) (Memref.isWhole_whole _) (Memref.whole main_arg3) (Memref.isWhole_whole _) (ms0 a t) (hs0 a t) (ms1 a t) (hs1 a t) (ms2 a t) (hs2 a t)) fun _ =>
          iprop(tables a c ∗ (dats a m 0 c).owesAt () t.castSucc
            ∗ owns (c : Thread nD τ) (ms0 a t) fullShare (iblk a m c (0 : Fin 3) t)
            ∗ owns (c : Thread nD τ) (ms1 a t) fullShare (iblk a m c (1 : Fin 3) t)
            ∗ owns (c : Thread nD τ) (ms2 a t) fullShare (out a m c t)) := by
  unfold tables
  by_cases q : InUse a t
  · rw [show out a m c t = _ from dif_pos q]
    iintro ⟨⟨HT0, HT1⟩, Ho, H0, H1, H2⟩
    iapply ((kernelRun0_A c (crd a t) (ms0 a t) (hs0 a t) (ms1 a t) (hs1 a t) (ms2 a t) (hs2 a t) (T0 a) (T1 a)
      (iblk a m c (0 : Fin 3) t) (iblk a m c (1 : Fin 3) t) q (fun h => (guards _ _).1 h q)).2 _)
    isplitl [H0]; · iapply rep_of_owns; iexact H0
    isplitl [H1]; · iapply rep_of_owns; iexact H1
    isplitl [HT0]; · iexact HT0
    isplitl [HT1]; · iexact HT1
    isplitl [H2]; · iexact H2
    iintro ⟨H0, H1, HT0, HT1, ⟨%e2, H2⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    unfold owns; iexists _; isplitr; swap
    · iexact H2
    · ipureintro; exact View.read_writes_of_cover _ _ _ _ _ (cover0_A_2 c _ _ _ _ _ _ _ _ _ _ _ _ _)
  · rw [show out a m c t = _ from dif_neg q]
    iintro ⟨⟨HT0, HT1⟩, Ho, H0, H1, H2⟩
    iapply ((kernelRun0_B c (crd a t) (ms0 a t) (hs0 a t) (ms1 a t) (hs1 a t) (ms2 a t) (hs2 a t) (T0 a) (T1 a)
      (iblk a m c (0 : Fin 3) t) (iblk a m c (1 : Fin 3) t) q ((guards _ _).2 q)).2 _)
    isplitl [H0]; · iapply rep_of_owns; iexact H0
    isplitl [H1]; · iapply rep_of_owns; iexact H1
    isplitl [HT0]; · iexact HT0
    isplitl [HT1]; · iexact HT1
    isplitl [H2]; · iexact H2
    iintro ⟨H0, H1, HT0, HT1, ⟨%e2, H2⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    unfold owns; iexists _; isplitr; swap
    · iexact H2
    · ipureintro; exact View.read_writes_of_cover _ _ _ _ _ (cover0_B_2 c _ _ _ _ _ _ _ _ _ _ _ _ _)

/-- The body's obligation, at every point. -/
theorem body_obligation (c : Dev nD) : BodyObligation (dats a m 0 c) (defs₀ (F := Bits)) Variants.none () Set.univ := fun t => by
  rw [bigSep_W0, bigSep_W0]
  rewrite [live a ((cfgA a).grid.coords t), show (dats a m 0 c).Φ t.castSucc = tables a c from rfl]
  rewrite [show (dats a m 0 c).Φ t.succ = tables a c from rfl, show (dats a m 0 c).owesAt () t.succ = (dats a m 0 c).owesAt () t.castSucc from rfl]
  simp only [before0, before1]
  refine BIBase.Entails.trans ?_ (body_at a m c t)
  iintro ⟨HT, Ho, ⟨%d0, H0⟩, ⟨%d1, H1⟩, ⟨%d2, H2⟩⟩
  isplitl [HT]; · iexact HT
  isplitl [Ho]; · iexact Ho
  isplitl [H0]; · iexact H0
  isplitl [H1]; · iexact H1
  iexists _; iexact H2

/-- The launch's share of the rounds library. -/
def u₀ : UR sig nD τ :=
  initOf (Pipeline.cells (pcs a) ((launch0 (F := Bits)).cellOf_inj fun _ => a))
    (Pipeline.launchToks (pcs a) ((launch0 (F := Bits)).cellOf_inj fun _ => a))

/-- Every window holds its array whole. -/
theorem share_eq (c : Dev nD) (w : Fin (cfgA a).W) : (dats a m 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem enter (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = tables a c from rfl]
  unfold tables
  iintro ⟨-, ⟨HT0, HT1⟩, -⟩
  isplitl [HT0]
  · iexact HT0
  iexact HT1

/-- The invariant at the last point is let go. -/
theorem leave (c : Dev nD) : (dats a m 0 c).Φ (Fin.last (cfgA a).N) ⊢ iprop(BI.emp ∗ Pipeline.scopedRest spec0 c) := by
  rw [scopedRest0_eq]
  iintro -
  isplitr <;> iempintro

/-- What a run ends with: every array at what the pipeline computes, every table as it was. -/
def Final : PUnit × MemSt nD τ sig (Elt Bits) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From any memory whose tables are `a`: every weakly fair execution terminates, with every array at what the
    pipeline computes and every semaphore counter at zero. -/
theorem run_main (hp : ∀ (c : Dev nD) (j : Fin 2), m ((c : Thread nD τ).loc (pre0.ref j)) = a.1 j) :
    θ_run (defs (F := Bits)) (onTc (τ := τ) (main (F := Bits))) ⟨m, fun _ => 0, ρ⟩ (fun r => Final a m r ∧ r.2.sem = fun _ => 0) :=
  Pipeline.θ_run_region_noSem_pf_quiescent pcfgs (fun _ => a) (dats a m) () ((launch0 (F := Bits)).cellOf_inj fun _ => a) (0 : Fin 1)
    (launch0 (F := Bits)).win.to₀ (launch0 (F := Bits)).pre EP defs₀ Variants.none m ρ main
    (hbody := fun c => (body_obligation a m c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := Bits)).win.arr_inj c (launch0 (F := Bits)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The tables of a launch, as the first device holds them. -/
def tablesOf : pre0.Contents (Elt Bits) := fun j => m (((0 : Dev nD) : Thread nD τ).loc (pre0.ref j))

/-- Under the precondition they are admissible: the index maps are those of the idealized program. -/
theorem ok (h : Cert.Pre_MoeDown m) : ok0 (tablesOf m) := by
  obtain ⟨h1, h2, h3⟩ := Experts.words_of_pre_down _ _ _ _ (h 0)
  exact Cert.MoeDownIdeal.Run.ok_of_inRange (F := Bits) (tablesOf m) ⟨h1, h2, h3⟩

/-- Every run leaves its arguments unchanged and every semaphore at zero. -/
theorem run (h : Cert.Pre_MoeDown m) :
    θ_run (defs (F := Bits)) (onTc (τ := τ) (main (F := Bits))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  let a : (pcfg0 (F := Bits)).Adm := ⟨tablesOf m, ok m h⟩
  have hp : ∀ (c : Dev nD) (j : Fin 2), m ((c : Thread nD τ).loc (pre0.ref j)) = a.1 j := fun c j => by
    obtain rfl : c = 0 := Subsingleton.elim (α := Fin 1) _ _
    rfl
  refine (θ_run defs _ _).mono (fun r hr => ⟨fun c => ?_, hr.2⟩) (run_main a m ρ hp)
  have hc := hr.1 c
  obtain rfl : c = 0 := Subsingleton.elim (α := Fin 1) _ _
  exact ⟨(hc.1 0).trans ((dats a m 0 0).arrAt_in 0 rfl _), (hc.1 1).trans ((dats a m 0 0).arrAt_in 1 rfl _),
    hc.2 0, hc.2 1⟩

end Cert.MoeDown.Run
end
-- ==== Proof.lean ====
/- The proof of everything claimed of the layer's calls, call by call, from the modules beside it. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.AttnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal.Run
public import proofs.«01_k».proof.Proof.Gen.MemKvRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInIdeal.Value
public import proofs.«01_k».proof.Proof.Gen.NormInRefIdeal.Run
public import proofs.«01_k».proof.Proof.Gen.NormInRefIdeal
public import proofs.«01_k».proof.Proof.NormInValue
public import proofs.«01_k».proof.Proof.Gen.HeadNorm
public import proofs.«01_k».proof.Proof.Gen.HeadNorm.Skeleton
public import proofs.«01_k».proof.Proof.Gen.HeadNorm.Launch
public import proofs.«01_k».proof.Proof.Gen.HeadNorm.Points
public import proofs.«01_k».proof.Proof.Gen.HeadNorm.Frame
public import proofs.«01_k».proof.Proof.Gen.HeadNormIdeal
public import proofs.«01_k».proof.Proof.Gen.HeadNormIdeal.Skeleton
public import proofs.«01_k».proof.Proof.Gen.HeadNormIdeal.Launch
public import proofs.«01_k».proof.Proof.Gen.HeadNormIdeal.Points
public import proofs.«01_k».proof.Proof.Gen.HeadNormIdeal.Frame
public import proofs.«01_k».proof.Proof.Gen.HeadNormIdeal.Value
public import proofs.«01_k».proof.Proof.Gen.HeadNormRefIdeal.Run
public import proofs.«01_k».proof.Proof.Gen.HeadNormRefIdeal
public import proofs.«01_k».proof.Proof.HeadNormValue
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.ConvRefIdeal
public import proofs.«01_k».proof.Proof.ConvValue
public import proofs.«01_k».proof.Proof.Gen.MidNorm
public import proofs.«01_k».proof.Proof.Gen.MidNorm.Skeleton
public import proofs.«01_k».proof.Proof.Gen.MidNorm.Launch
public import proofs.«01_k».proof.Proof.Gen.MidNorm.Points
public import proofs.«01_k».proof.Proof.Gen.MidNorm.Frame
public import proofs.«01_k».proof.Proof.Gen.MidNormIdeal
public import proofs.«01_k».proof.Proof.Gen.MidNormIdeal.Skeleton
public import proofs.«01_k».proof.Proof.Gen.MidNormIdeal.Launch
public import proofs.«01_k».proof.Proof.Gen.MidNormIdeal.Points
public import proofs.«01_k».proof.Proof.Gen.MidNormIdeal.Frame
public import proofs.«01_k».proof.Proof.Gen.MidNormIdeal.Value
public import proofs.«01_k».proof.Proof.Gen.MidNormRefIdeal.Run
public import proofs.«01_k».proof.Proof.Gen.MidNormRefIdeal
public import proofs.«01_k».proof.Proof.MidNormValue
public import proofs.«01_k».proof.Proof.InProjValue
public import proofs.«01_k».proof.Proof.MemKvValue
public import proofs.«01_k».proof.Proof.OutProjValue
public import proofs.«01_k».proof.Proof.MergeValue
public import proofs.«01_k».proof.Proof.AttnRef
public import proofs.«01_k».proof.Proof.UpClaims
public import proofs.«01_k».proof.Proof.UpFrame
public import proofs.«01_k».proof.Proof.DownClaims
public import proofs.«01_k».proof.Proof.DownFrame
public import proofs.«01_k».proof.Proof.Gen.MoeUp
public import proofs.«01_k».proof.Proof.Gen.MoeUpIdeal
public import proofs.«01_k».proof.Proof.Gen.MoeUpRefIdeal
public import proofs.«01_k».proof.Proof.Gen.MoeDown
public import proofs.«01_k».proof.Proof.Gen.MoeDownIdeal
public import proofs.«01_k».proof.Proof.Gen.MoeDownRefIdeal
public import proofs.«01_k».proof.Proof.Gen.Pre_up_tables
public import proofs.«01_k».proof.Proof.Gen.Pre_down_tables
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-! ### The memory attention -/

/-- The printed kernel of the memory attention ends with its arguments kept and every counter at zero. -/
theorem frame_Attn : Cert.quiescent_Attn := fun m ρ _ => Cert.Attn.Gen.frame m ρ
/-- So does its reading over the extended reals, -/
theorem frame_AttnIdeal : Cert.quiescent_AttnIdeal := fun m ρ _ => Cert.AttnIdeal.Gen.frame m ρ
/-- and the reference, which declares no counter. -/
theorem frame_AttnRefIdeal : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- Over the extended reals the kernel of the memory attention and its reference end at the same result array. -/
theorem algebraic_Attn : Cert.algebraic_AttnIdeal_AttnRefIdeal := by
  intro m ρ m' ρ' _ hagree
  refine ⟨fun c => Cert.AttnIdeal.RefValue.attention (m ((c.tc : Thread Cert.AttnIdeal.nD Cert.AttnIdeal.τ).loc Cert.AttnIdeal.main_arg0)) (m ((c.tc : Thread Cert.AttnIdeal.nD Cert.AttnIdeal.τ).loc Cert.AttnIdeal.main_arg1)), ?_, ?_⟩
  · exact (θ_run Cert.AttnIdeal.defs _ _).mono
      (fun r h c => ⟨(h c).1.trans (Cert.AttnIdeal.RefValue.final m c), (h c).2⟩)
      (Cert.AttnIdeal.Value.run_blocks (F := Ideal) m ρ)
  · refine (θ_run Cert.AttnRefIdeal.defs _ _).mono (fun r h c => ⟨(h c).1.trans ?_, (h c).2⟩)
      (Cert.AttnRefIdeal.Value.run (F := Ideal) m' ρ')
    rw [Cert.AttnRefIdeal.Read.val_main_v54_eq, Cert.AttnIdeal.RefValue.reference_eq, (hagree c).1, (hagree c).2]

/-! ### The input projection -/

/-- The printed kernel of the input projection ends with its arguments kept and every counter at zero. -/
theorem frame_InProj : Cert.quiescent_InProj := fun m ρ _ => Cert.InProj.Gen.frame m ρ
/-- So does its reading over the extended reals, -/
theorem frame_InProjIdeal : Cert.quiescent_InProjIdeal := fun m ρ _ => Cert.InProjIdeal.Gen.frame m ρ
/-- and the reference, which declares no counter. -/
theorem frame_InProjRefIdeal : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- Over the extended reals the kernel of the input projection and its reference end at the same result array. -/
theorem algebraic_InProj : Cert.algebraic_InProjIdeal_InProjRefIdeal := by
  intro m ρ m' ρ' _ hagree
  refine ⟨fun c => Cert.InProjIdeal.RefValue.proj m c, ?_, ?_⟩
  · exact (θ_run Cert.InProjIdeal.defs _ _).mono
      (fun r h c => ⟨(h c).1.trans (Cert.InProjIdeal.RefValue.final m c), (h c).2⟩)
      (Cert.InProjIdeal.Value.run_blocks (F := Ideal) m ρ)
  · refine (θ_run Cert.InProjRefIdeal.defs _ _).mono (fun r h c => ⟨(h c).1.trans ?_, (h c).2⟩)
      (Cert.InProjRefIdeal.Value.run (F := Ideal) m' ρ')
    rw [(hagree c).1, (hagree c).2]

/-! ### The projection of the memory to keys and values -/

/-- The printed kernel of the projection of the memory to keys and values ends with its arguments kept and every counter at zero. -/
theorem frame_MemKv : Cert.quiescent_MemKv := fun m ρ _ => Cert.MemKv.Gen.frame m ρ
/-- So does its reading over the extended reals, -/
theorem frame_MemKvIdeal : Cert.quiescent_MemKvIdeal := fun m ρ _ => Cert.MemKvIdeal.Gen.frame m ρ
/-- and the reference, which declares no counter. -/
theorem frame_MemKvRefIdeal : Cert.quiescent_MemKvRefIdeal := fun m ρ _ =>
  (θ_run Cert.MemKvRefIdeal.defs _ _).mono (fun r h => ⟨fun c => (h c).2,
      Idealize.ShloMosaic.sem_eq_zero_of_no_sems (by decide) r.2⟩)
    (Cert.MemKvRefIdeal.Value.run (F := Ideal) m ρ)

/-- Over the extended reals the kernel of the projection of the memory to keys and values and its reference end at the same result array. -/
theorem algebraic_MemKv : Cert.algebraic_MemKvIdeal_MemKvRefIdeal := by
  intro m ρ m' ρ' _ hagree
  refine ⟨fun c => Cert.MemKvIdeal.RefValue.proj m c, ?_, ?_⟩
  · exact (θ_run Cert.MemKvIdeal.defs _ _).mono
      (fun r h c => ⟨(h c).1.trans (Cert.MemKvIdeal.RefValue.final m c), (h c).2⟩)
      (Cert.MemKvIdeal.Value.run_blocks (F := Ideal) m ρ)
  · refine (θ_run Cert.MemKvRefIdeal.defs _ _).mono (fun r h c => ⟨(h c).1.trans ?_, (h c).2⟩)
      (Cert.MemKvRefIdeal.Value.run (F := Ideal) m' ρ')
    rw [(hagree c).1, (hagree c).2]

/-! ### The output projection -/

/-- The printed kernel of the output projection ends with its arguments kept and every counter at zero. -/
theorem frame_OutProj : Cert.quiescent_OutProj := fun m ρ _ => Cert.OutProj.Gen.frame m ρ
/-- So does its reading over the extended reals, -/
theorem frame_OutProjIdeal : Cert.quiescent_OutProjIdeal := fun m ρ _ => Cert.OutProjIdeal.Gen.frame m ρ
/-- and the reference, which declares no counter. -/
theorem frame_OutProjRefIdeal : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- Over the extended reals the kernel of the output projection and its reference end at the same result array. -/
theorem algebraic_OutProj : Cert.algebraic_OutProjIdeal_OutProjRefIdeal := by
  intro m ρ m' ρ' _ hagree
  refine ⟨fun c => Cert.OutProjIdeal.RefValue.proj m c, ?_, ?_⟩
  · exact (θ_run Cert.OutProjIdeal.defs _ _).mono
      (fun r h c => ⟨(h c).1.trans (Cert.OutProjIdeal.RefValue.final m c), (h c).2⟩)
      (Cert.OutProjIdeal.Value.run_blocks (F := Ideal) m ρ)
  · refine (θ_run Cert.OutProjRefIdeal.defs _ _).mono (fun r h c => ⟨(h c).1.trans ?_, (h c).2⟩)
      (Cert.OutProjRefIdeal.Value.run (F := Ideal) m' ρ')
    rw [(hagree c).1, (hagree c).2]

/-! ### The gated merge of the branches -/

/-- The printed kernel of the gated merge of the branches ends with its arguments kept and every counter at zero. -/
theorem frame_Merge : Cert.quiescent_Merge := fun m ρ _ => Cert.Merge.Gen.frame m ρ
/-- So does its reading over the extended reals, -/
theorem frame_MergeIdeal : Cert.quiescent_MergeIdeal := fun m ρ _ => Cert.MergeIdeal.Gen.frame m ρ
/-- and the reference, which declares no counter. -/
theorem frame_MergeRefIdeal : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- Over the extended reals the kernel of the gated merge of the branches and its reference end at the same result array. -/
theorem algebraic_Merge : Cert.algebraic_MergeIdeal_MergeRefIdeal := by
  intro m ρ m' ρ' _ hagree
  refine ⟨fun c => Cert.MergeIdeal.RefValue.merged (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)), ?_, ?_⟩
  · exact (θ_run Cert.MergeIdeal.defs _ _).mono
      (fun r h c => ⟨(h c).1.trans (Cert.MergeIdeal.RefValue.final m c), (h c).2⟩)
      (Cert.MergeIdeal.Value.run_blocks (F := Ideal) m ρ)
  · refine (θ_run Cert.MergeRefIdeal.defs _ _).mono (fun r h c => ⟨(h c).1.trans ?_, (h c).2⟩)
      (Cert.MergeIdeal.RefValue.reference_run m' ρ')
    rw [(hagree c).1, (hagree c).2.1, (hagree c).2.2.1, (hagree c).2.2.2.1, (hagree c).2.2.2.2]

/-! ### The experts' first product -/

/-- The printed kernel of the experts' first product, at tables in range, ends with its arguments kept and every counter at zero. -/
theorem frame_MoeUp : Cert.quiescent_MoeUp := fun m ρ h => Cert.MoeUp.Run.run m ρ h
/-- So does its reading over the extended reals, -/
theorem frame_MoeUpIdeal : Cert.quiescent_MoeUpIdeal := fun m ρ h =>
  (θ_run Cert.MoeUpIdeal.defs _ _).mono (fun r hr => ⟨fun c => (hr.1 c).2, hr.2⟩) (Cert.MoeUpIdeal.Run.run m ρ h)
/-- and the reference, which declares no counter, at any tables -/
theorem frame_MoeUpRefIdeal : Cert.quiescent_MoeUpRefIdeal := fun m ρ _ =>
  (θ_run Cert.MoeUpRefIdeal.defs _ _).mono (fun r h => ⟨fun c => (h c).2,
      Idealize.ShloMosaic.sem_eq_zero_of_no_sems (by decide) r.2⟩)
    (Cert.MoeUpRefIdeal.Value.run (F := Ideal) m ρ)
/-- and so at tables in range. -/
theorem frame_MoeUpRefIdeal_pre : Cert.quiescent_MoeUpRefIdeal_pre_up_tables := fun m ρ _ =>
  (θ_run Cert.MoeUpRefIdeal.defs _ _).mono (fun r h => ⟨fun c => (h c).2,
      Idealize.ShloMosaic.sem_eq_zero_of_no_sems (by decide) r.2⟩)
    (Cert.MoeUpRefIdeal.Value.run (F := Ideal) m ρ)

/-- Over the extended reals, at tables in range, the kernel of the experts' first product and its reference end at the same result array. -/
theorem algebraic_MoeUp : Cert.algebraic_MoeUpIdeal_MoeUpRefIdeal := by
  intro m ρ m' ρ' hpre hagree
  refine ⟨fun c => Cert.MoeUpIdeal.Run.product m c, ?_, ?_⟩
  · exact (θ_run Cert.MoeUpIdeal.defs _ _).mono (fun r h c => h.1 c) (Cert.MoeUpIdeal.Run.run m ρ hpre)
  · have ht : ∀ c, _ := fun c => Cert.Experts.words_of_pre _ _ _ _ _ (hpre c)
    refine (θ_run Cert.MoeUpRefIdeal.defs _ _).mono (fun r h c => ⟨(h c).1.trans ?_, (h c).2⟩)
      (Cert.MoeUpRefIdeal.Meaning.run m' ρ' (fun c => ?_) (fun c => ?_))
    · rw [(hagree c).2.2.2.1]
      exact (ht c).1
    · rw [(hagree c).2.2.2.2]
      exact (ht c).2.2
    · rw [(hagree c).1, (hagree c).2.1, (hagree c).2.2.1, (hagree c).2.2.2.1, (hagree c).2.2.2.2]

/-! ### The experts' second product -/

/-- The printed kernel of the experts' second product, at tables in range, ends with its arguments kept and every counter at zero. -/
theorem frame_MoeDown : Cert.quiescent_MoeDown := fun m ρ h => Cert.MoeDown.Run.run m ρ h
/-- So does its reading over the extended reals, -/
theorem frame_MoeDownIdeal : Cert.quiescent_MoeDownIdeal := fun m ρ h =>
  (θ_run Cert.MoeDownIdeal.defs _ _).mono (fun r hr => ⟨fun c => (hr.1 c).2, hr.2⟩) (Cert.MoeDownIdeal.Run.run m ρ h)
/-- and the reference, which declares no counter, at any tables -/
theorem frame_MoeDownRefIdeal : Cert.quiescent_MoeDownRefIdeal := fun m ρ _ =>
  (θ_run Cert.MoeDownRefIdeal.defs _ _).mono (fun r h => ⟨fun c => (h c).2,
      Idealize.ShloMosaic.sem_eq_zero_of_no_sems (by decide) r.2⟩)
    (Cert.MoeDownRefIdeal.Value.run (F := Ideal) m ρ)
/-- and so at tables in range. -/
theorem frame_MoeDownRefIdeal_pre : Cert.quiescent_MoeDownRefIdeal_pre_down_tables := fun m ρ _ =>
  (θ_run Cert.MoeDownRefIdeal.defs _ _).mono (fun r h => ⟨fun c => (h c).2,
      Idealize.ShloMosaic.sem_eq_zero_of_no_sems (by decide) r.2⟩)
    (Cert.MoeDownRefIdeal.Value.run (F := Ideal) m ρ)

/-- Over the extended reals, at tables in range, the kernel of the experts' second product and its reference end at the same result array. -/
theorem algebraic_MoeDown : Cert.algebraic_MoeDownIdeal_MoeDownRefIdeal := by
  intro m ρ m' ρ' hpre hagree
  refine ⟨fun c => Cert.MoeDownIdeal.Run.product m c, ?_, ?_⟩
  · exact (θ_run Cert.MoeDownIdeal.defs _ _).mono (fun r h c => h.1 c) (Cert.MoeDownIdeal.Run.run m ρ hpre)
  · have ht : ∀ c, _ := fun c => Cert.Experts.words_of_pre_down _ _ _ _ (hpre c)
    refine (θ_run Cert.MoeDownRefIdeal.defs _ _).mono (fun r h c => ⟨(h c).1.trans ?_, (h c).2⟩)
      (Cert.MoeDownRefIdeal.Meaning.run m' ρ' (fun c => ?_) (fun c => ?_))
    · rw [(hagree c).2.2.1]
      exact (ht c).1
    · rw [(hagree c).2.2.2]
      exact (ht c).2.2
    · rw [(hagree c).1, (hagree c).2.1, (hagree c).2.2.1, (hagree c).2.2.2]

/-! ### The input layer norm -/

/-- The printed kernel of the input layer norm ends with its arguments kept and every counter at zero. -/
theorem frame_NormIn : Cert.quiescent_NormIn := fun m ρ _ => Cert.NormIn.Gen.frame m ρ
/-- So does its reading over the extended reals, -/
theorem frame_NormInIdeal : Cert.quiescent_NormInIdeal := fun m ρ _ => Cert.NormInIdeal.Gen.frame m ρ
/-- and the reference, which declares no counter. -/
theorem frame_NormInRefIdeal : Cert.quiescent_NormInRefIdeal := fun m ρ _ =>
  (θ_run Cert.NormInRefIdeal.defs _ _).mono (fun r h => ⟨fun c => (h c).2.2,
      Idealize.ShloMosaic.sem_eq_zero_of_no_sems (by decide) r.2⟩)
    (Cert.NormInRefIdeal.Value.run (F := Ideal) m ρ)

/-- Over the extended reals the kernel of the input layer norm and its reference end at the same result arrays. -/
theorem algebraic_NormIn : Cert.algebraic_NormInIdeal_NormInRefIdeal := by
  intro m ρ m' ρ' _ hagree
  refine ⟨fun c => Cert.NormInIdeal.RefValue.norms (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)), fun c => Cert.NormInIdeal.RefValue.norms (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)), ?_, ?_⟩
  · exact (θ_run Cert.NormInIdeal.defs _ _).mono
      (fun r h c => ⟨(h c).1.trans (Cert.NormInIdeal.RefValue.final m c), (h c).2.1.trans (Cert.NormInIdeal.RefValue.final' m c), (h c).2.2⟩)
      (Cert.NormInIdeal.Value.run_blocks (F := Ideal) m ρ)
  · refine (θ_run Cert.NormInRefIdeal.defs _ _).mono (fun r h c => ⟨(h c).1.trans ?_, (h c).2.1.trans ?_, (h c).2.2⟩)
      (Cert.NormInIdeal.RefValue.reference_run m' ρ')
    all_goals rw [(hagree c).1, (hagree c).2.1, (hagree c).2.2.1, (hagree c).2.2.2]

/-! ### The heads' norm and gate after the delta rule -/

/-- The printed kernel of the heads' norm and gate after the delta rule ends with its arguments kept and every counter at zero. -/
theorem frame_HeadNorm : Cert.quiescent_HeadNorm := fun m ρ _ => Cert.HeadNorm.Gen.frame m ρ
/-- So does its reading over the extended reals, -/
theorem frame_HeadNormIdeal : Cert.quiescent_HeadNormIdeal := fun m ρ _ => Cert.HeadNormIdeal.Gen.frame m ρ
/-- and the reference, which declares no counter. -/
theorem frame_HeadNormRefIdeal : Cert.quiescent_HeadNormRefIdeal := fun m ρ _ =>
  (θ_run Cert.HeadNormRefIdeal.defs _ _).mono (fun r h => ⟨fun c => (h c).2,
      Idealize.ShloMosaic.sem_eq_zero_of_no_sems (by decide) r.2⟩)
    (Cert.HeadNormRefIdeal.Value.run (F := Ideal) m ρ)

/-- Over the extended reals the kernel of the heads' norm and gate after the delta rule and its reference end at the same result array. -/
theorem algebraic_HeadNorm : Cert.algebraic_HeadNormIdeal_HeadNormRefIdeal := by
  intro m ρ m' ρ' _ hagree
  refine ⟨fun c => Cert.HeadNormIdeal.RefValue.norms (m ((c.tc : Thread Cert.HeadNormIdeal.nD Cert.HeadNormIdeal.τ).loc Cert.HeadNormIdeal.main_arg0)) (m ((c.tc : Thread Cert.HeadNormIdeal.nD Cert.HeadNormIdeal.τ).loc Cert.HeadNormIdeal.main_arg1)) (m ((c.tc : Thread Cert.HeadNormIdeal.nD Cert.HeadNormIdeal.τ).loc Cert.HeadNormIdeal.main_arg2)) (m ((c.tc : Thread Cert.HeadNormIdeal.nD Cert.HeadNormIdeal.τ).loc Cert.HeadNormIdeal.main_arg3)), ?_, ?_⟩
  · exact (θ_run Cert.HeadNormIdeal.defs _ _).mono
      (fun r h c => ⟨(h c).1.trans (Cert.HeadNormIdeal.RefValue.final m c), (h c).2⟩)
      (Cert.HeadNormIdeal.Value.run_blocks (F := Ideal) m ρ)
  · refine (θ_run Cert.HeadNormRefIdeal.defs _ _).mono (fun r h c => ⟨(h c).1.trans ?_, (h c).2⟩)
      (Cert.HeadNormIdeal.RefValue.reference_run m' ρ')
    rw [(hagree c).1, (hagree c).2.1, (hagree c).2.2.1, (hagree c).2.2.2]

/-! ### The short convolution branch -/

/-- The printed kernel of the short convolution branch ends with its arguments kept and every counter at zero. -/
theorem frame_Conv : Cert.quiescent_Conv := fun m ρ _ => Cert.Conv.Gen.frame m ρ
/-- So does its reading over the extended reals, -/
theorem frame_ConvIdeal : Cert.quiescent_ConvIdeal := fun m ρ _ => Cert.ConvIdeal.Gen.frame m ρ
/-- and the reference, which declares no counter. -/
theorem frame_ConvRefIdeal : Cert.quiescent_ConvRefIdeal := fun m ρ _ =>
  (θ_run Cert.ConvRefIdeal.defs _ _).mono (fun r h => ⟨fun c => (h c).2,
      Idealize.ShloMosaic.sem_eq_zero_of_no_sems (by decide) r.2⟩)
    (Cert.ConvRefIdeal.Value.run (F := Ideal) m ρ)

/-- Over the extended reals the kernel of the short convolution branch and its reference end at the same result array. -/
theorem algebraic_Conv : Cert.algebraic_ConvIdeal_ConvRefIdeal := by
  intro m ρ m' ρ' _ hagree
  refine ⟨fun c => Cert.ConvIdeal.RefValue.norms (m ((c.tc : Thread Cert.ConvIdeal.nD Cert.ConvIdeal.τ).loc Cert.ConvIdeal.main_arg0)) (m ((c.tc : Thread Cert.ConvIdeal.nD Cert.ConvIdeal.τ).loc Cert.ConvIdeal.main_arg1)), ?_, ?_⟩
  · exact (θ_run Cert.ConvIdeal.defs _ _).mono
      (fun r h c => ⟨(h c).1.trans (Cert.ConvIdeal.RefValue.final m c), (h c).2⟩)
      (Cert.ConvIdeal.Value.run_blocks (F := Ideal) m ρ)
  · refine (θ_run Cert.ConvRefIdeal.defs _ _).mono (fun r h c => ⟨(h c).1.trans ?_, (h c).2⟩)
      (Cert.ConvIdeal.RefValue.reference_run m' ρ')
    rw [(hagree c).1, (hagree c).2]

/-! ### The layer norm after the branches' residual -/

/-- The printed kernel of the layer norm after the branches' residual ends with its arguments kept and every counter at zero. -/
theorem frame_MidNorm : Cert.quiescent_MidNorm := fun m ρ _ => Cert.MidNorm.Gen.frame m ρ
/-- So does its reading over the extended reals, -/
theorem frame_MidNormIdeal : Cert.quiescent_MidNormIdeal := fun m ρ _ => Cert.MidNormIdeal.Gen.frame m ρ
/-- and the reference, which declares no counter. -/
theorem frame_MidNormRefIdeal : Cert.quiescent_MidNormRefIdeal := fun m ρ _ =>
  (θ_run Cert.MidNormRefIdeal.defs _ _).mono (fun r h => ⟨fun c => (h c).2.2,
      Idealize.ShloMosaic.sem_eq_zero_of_no_sems (by decide) r.2⟩)
    (Cert.MidNormRefIdeal.Value.run (F := Ideal) m ρ)

/-- Over the extended reals the kernel of the layer norm after the branches' residual and its reference end at the same result arrays. -/
theorem algebraic_MidNorm : Cert.algebraic_MidNormIdeal_MidNormRefIdeal := by
  intro m ρ m' ρ' _ hagree
  refine ⟨fun c => Cert.MidNormIdeal.RefValue.norms (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)), fun c => Cert.MidNormIdeal.RefValue.norms (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)), ?_, ?_⟩
  · exact (θ_run Cert.MidNormIdeal.defs _ _).mono
      (fun r h c => ⟨(h c).1.trans (Cert.MidNormIdeal.RefValue.final m c), (h c).2.1.trans (Cert.MidNormIdeal.RefValue.final' m c), (h c).2.2⟩)
      (Cert.MidNormIdeal.Value.run_blocks (F := Ideal) m ρ)
  · refine (θ_run Cert.MidNormRefIdeal.defs _ _).mono (fun r h c => ⟨(h c).1.trans ?_, (h c).2.1.trans ?_, (h c).2.2⟩)
      (Cert.MidNormIdeal.RefValue.reference_run m' ρ')
    all_goals rw [(hagree c).1, (hagree c).2.1, (hagree c).2.2.1, (hagree c).2.2.2]

/-- Everything that is claimed. -/
theorem claim : Cert.Claim := ⟨Cert.Attn.Gen.facts, Cert.AttnIdeal.Gen.facts, Cert.AttnRefIdeal.Gen.facts, Cert.InProj.Gen.facts, Cert.InProjIdeal.Gen.facts, Cert.InProjRefIdeal.Gen.facts, Cert.MemKv.Gen.facts, Cert.MemKvIdeal.Gen.facts, Cert.MemKvRefIdeal.Gen.facts, Cert.OutProj.Gen.facts, Cert.OutProjIdeal.Gen.facts, Cert.OutProjRefIdeal.Gen.facts, Cert.Merge.Gen.facts, Cert.MergeIdeal.Gen.facts, Cert.MergeRefIdeal.Gen.facts,
  Cert.MoeUp.Gen.facts, Cert.MoeUpIdeal.Gen.facts, Cert.MoeUpRefIdeal.Gen.facts, Cert.MoeDown.Gen.facts, Cert.MoeDownIdeal.Gen.facts, Cert.MoeDownRefIdeal.Gen.facts, Cert.NormIn.Gen.facts, Cert.NormInIdeal.Gen.facts, Cert.NormInRefIdeal.Gen.facts, Cert.HeadNorm.Gen.facts, Cert.HeadNormIdeal.Gen.facts, Cert.HeadNormRefIdeal.Gen.facts, Cert.Conv.Gen.facts, Cert.ConvIdeal.Gen.facts, Cert.ConvRefIdeal.Gen.facts, Cert.MidNorm.Gen.facts, Cert.MidNormIdeal.Gen.facts, Cert.MidNormRefIdeal.Gen.facts, Cert.Pre_up_tables.Gen.facts, Cert.Pre_down_tables.Gen.facts,
  frame_Attn, frame_AttnIdeal, frame_AttnRefIdeal, frame_InProj, frame_InProjIdeal, frame_InProjRefIdeal, frame_MemKv, frame_MemKvIdeal, frame_MemKvRefIdeal, frame_OutProj, frame_OutProjIdeal, frame_OutProjRefIdeal, frame_Merge, frame_MergeIdeal, frame_MergeRefIdeal,
  frame_MoeUp, frame_MoeUpIdeal, frame_MoeUpRefIdeal, frame_MoeUpRefIdeal_pre, frame_MoeDown, frame_MoeDownIdeal, frame_MoeDownRefIdeal, frame_MoeDownRefIdeal_pre,
  frame_NormIn, frame_NormInIdeal, frame_NormInRefIdeal, frame_HeadNorm, frame_HeadNormIdeal, frame_HeadNormRefIdeal, frame_Conv, frame_ConvIdeal, frame_ConvRefIdeal, frame_MidNorm, frame_MidNormIdeal, frame_MidNormRefIdeal,
  trivial, algebraic_Attn, trivial, algebraic_InProj, trivial, algebraic_MemKv, trivial, algebraic_OutProj, trivial, algebraic_Merge, trivial, algebraic_MoeUp, trivial, algebraic_MoeDown,
  trivial, algebraic_NormIn, trivial, algebraic_HeadNorm, trivial, algebraic_Conv, trivial, algebraic_MidNorm⟩

end Cert.Proof

end
